-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![4096, 2048]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S2048 : Shape := ⟨1, ![2048]⟩
abbrev S2048x2048 : Shape := ⟨2, ![2048, 2048]⟩
abbrev S4 : Shape := ⟨1, ![4]⟩
abbrev S2 : Shape := ⟨1, ![2]⟩
abbrev S_ : Shape := ⟨0, ![]⟩
abbrev S18 : Shape := ⟨1, ![18]⟩
abbrev S1x2048x2048 : Shape := ⟨3, ![1, 2048, 2048]⟩
abbrev S1 : Shape := ⟨1, ![1]⟩
abbrev S112x2048 : Shape := ⟨2, ![112, 2048]⟩
abbrev S1x112x2048 : Shape := ⟨3, ![1, 112, 2048]⟩
abbrev S128x2048 : Shape := ⟨2, ![128, 2048]⟩
abbrev S1x128x2048 : Shape := ⟨3, ![1, 128, 2048]⟩
abbrev S112 : Shape := ⟨1, ![112]⟩
abbrev S112x1 : Shape := ⟨2, ![112, 1]⟩
abbrev S1x2048 : Shape := ⟨2, ![1, 2048]⟩
abbrev S128 : Shape := ⟨1, ![128]⟩
abbrev S128x1 : Shape := ⟨2, ![128, 1]⟩

abbrev nBuf : Space → Nat
  | .hbm => 3
  | .vmem => 4
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S2048x2048, .f32⟩
  | .local _ .vmem, ⟨0, _⟩ => ⟨S2048, .f32⟩
  | .local _ .vmem, ⟨1, _⟩ => ⟨S2048x2048, .f32⟩
  | .local _ .vmem, ⟨2, _⟩ => ⟨S2048x2048, .f32⟩
  | .local _ .vmem, ⟨3, _⟩ => ⟨S2048x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32_60 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v125 : BitVec 32 := Scalar.muli v8 c2048_i32
  let c0_i32_61 : BitVec 32 := 0#32
  ![0, v125.toNat, 0]
def k0_dev1 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v129 : BitVec 32 := Scalar.muli v2 c4_i32_63
  let v130 : BitVec 32 := Scalar.addi c0_i32_64 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v131 : BitVec 32 := Scalar.muli v5 c2_i32_65
  let v132 : BitVec 32 := Scalar.addi v130 v131
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_66 : BitVec 32 := 1#32
  let v133 : BitVec 32 := Scalar.muli v9 c1_i32_66
  let v134 : BitVec 32 := Scalar.addi v132 v133
  v134.toNat
def k0_dev2 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_4 : BitVec 32 := 1#32
  let v13 : BitVec 32 := Scalar.subi v12 c1_i32_4
  let c4_i32_5 : BitVec 32 := 4#32
  let c0_i32_6 : BitVec 32 := 0#32
  let v14 : BitVec 1 := Scalar.cmpi .eq c4_i32_5 c0_i32_6
  let c1_i32_7 : BitVec 32 := 1#32
  let v15 : BitVec 32 := Scalar.select v14 c1_i32_7 c4_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_68 : BitVec 32 := 4#32
  let v135 : BitVec 32 := Scalar.muli v40 c4_i32_68
  let v136 : BitVec 32 := Scalar.addi c0_i32_69 v135
  let c1_i32_18 : BitVec 32 := 1#32
  let v41 : BitVec 32 := Scalar.addi v23 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c0_i32_26 : BitVec 32 := 0#32
  let v53 : BitVec 1 := Scalar.cmpi .sgt v51 c0_i32_26
  let v54 : BitVec 32 := Scalar.extui v53
  let c0_i32_27 : BitVec 32 := 0#32
  let v55 : BitVec 1 := Scalar.cmpi .slt v51 c0_i32_27
  let v56 : BitVec 32 := Scalar.extui v55
  let v57 : BitVec 32 := Scalar.subi v54 v56
  let c2_i32_25 : BitVec 32 := 2#32
  let c0_i32_28 : BitVec 32 := 0#32
  let v58 : BitVec 1 := Scalar.cmpi .sgt c2_i32_25 c0_i32_28
  let v59 : BitVec 32 := Scalar.extui v58
  let c0_i32_29 : BitVec 32 := 0#32
  let v60 : BitVec 1 := Scalar.cmpi .slt c2_i32_25 c0_i32_29
  let v61 : BitVec 32 := Scalar.extui v60
  let v62 : BitVec 32 := Scalar.subi v59 v61
  let v63 : BitVec 1 := Scalar.cmpi .ne v57 v62
  let v64 : BitVec 32 := Scalar.remsi v51 c2_i32_25
  let c0_i32_30 : BitVec 32 := 0#32
  let v65 : BitVec 1 := Scalar.cmpi .ne v64 c0_i32_30
  let v66 : BitVec 1 := Scalar.andi v63 v65
  let v52 : BitVec 32 := Scalar.divsi v51 c2_i32_25
  let c1_i32_31 : BitVec 32 := 1#32
  let v67 : BitVec 32 := Scalar.subi v52 c1_i32_31
  let v68 : BitVec 32 := Scalar.select v66 v67 v52
  let c2_i32_70 : BitVec 32 := 2#32
  let v137 : BitVec 32 := Scalar.muli v68 c2_i32_70
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v139 : BitVec 32 := Scalar.muli v8 c1_i32_71
  let v140 : BitVec 32 := Scalar.addi v138 v139
  v140.toNat
def k0_dev3 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_32 : BitVec 32 := 1#32
  let v69 : BitVec 32 := Scalar.addi v12 c1_i32_32
  let c4_i32_33 : BitVec 32 := 4#32
  let c0_i32_34 : BitVec 32 := 0#32
  let v70 : BitVec 1 := Scalar.cmpi .eq c4_i32_33 c0_i32_34
  let c1_i32_35 : BitVec 32 := 1#32
  let v71 : BitVec 32 := Scalar.select v70 c1_i32_35 c4_i32_33
  let v72 : BitVec 32 := Scalar.remsi v69 v71
  let c0_i32_37 : BitVec 32 := 0#32
  let v74 : BitVec 1 := Scalar.cmpi .slt v72 c0_i32_37
  let c0_i32_38 : BitVec 32 := 0#32
  let v75 : BitVec 1 := Scalar.cmpi .slt v71 c0_i32_38
  let v76 : BitVec 1 := Scalar.xori v74 v75
  let c0_i32_36 : BitVec 32 := 0#32
  let v73 : BitVec 1 := Scalar.cmpi .ne v72 c0_i32_36
  let v77 : BitVec 1 := Scalar.andi v76 v73
  let v78 : BitVec 32 := Scalar.addi v72 v71
  let v79 : BitVec 32 := Scalar.select v77 v78 v72
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c2_i32_39 : BitVec 32 := 2#32
  let c0_i32_42 : BitVec 32 := 0#32
  let v86 : BitVec 1 := Scalar.cmpi .sgt c2_i32_39 c0_i32_42
  let v87 : BitVec 32 := Scalar.extui v86
  let c0_i32_43 : BitVec 32 := 0#32
  let v88 : BitVec 1 := Scalar.cmpi .slt c2_i32_39 c0_i32_43
  let v89 : BitVec 32 := Scalar.extui v88
  let v90 : BitVec 32 := Scalar.subi v87 v89
  let v91 : BitVec 1 := Scalar.cmpi .ne v85 v90
  let v92 : BitVec 32 := Scalar.remsi v79 c2_i32_39
  let c0_i32_44 : BitVec 32 := 0#32
  let v93 : BitVec 1 := Scalar.cmpi .ne v92 c0_i32_44
  let v94 : BitVec 1 := Scalar.andi v91 v93
  let v80 : BitVec 32 := Scalar.divsi v79 c2_i32_39
  let c1_i32_45 : BitVec 32 := 1#32
  let v95 : BitVec 32 := Scalar.subi v80 c1_i32_45
  let v96 : BitVec 32 := Scalar.select v94 v95 v80
  let c4_i32_73 : BitVec 32 := 4#32
  let v141 : BitVec 32 := Scalar.muli v96 c4_i32_73
  let v142 : BitVec 32 := Scalar.addi c0_i32_74 v141
  let c1_i32_46 : BitVec 32 := 1#32
  let v97 : BitVec 32 := Scalar.addi v79 c1_i32_46
  let c4_i32_47 : BitVec 32 := 4#32
  let c0_i32_48 : BitVec 32 := 0#32
  let v98 : BitVec 1 := Scalar.cmpi .eq c4_i32_47 c0_i32_48
  let c1_i32_49 : BitVec 32 := 1#32
  let v99 : BitVec 32 := Scalar.select v98 c1_i32_49 c4_i32_47
  let v100 : BitVec 32 := Scalar.remsi v97 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let c0_i32_54 : BitVec 32 := 0#32
  let v109 : BitVec 1 := Scalar.cmpi .sgt v107 c0_i32_54
  let v110 : BitVec 32 := Scalar.extui v109
  let c0_i32_55 : BitVec 32 := 0#32
  let v111 : BitVec 1 := Scalar.cmpi .slt v107 c0_i32_55
  let v112 : BitVec 32 := Scalar.extui v111
  let v113 : BitVec 32 := Scalar.subi v110 v112
  let c2_i32_53 : BitVec 32 := 2#32
  let c0_i32_56 : BitVec 32 := 0#32
  let v114 : BitVec 1 := Scalar.cmpi .sgt c2_i32_53 c0_i32_56
  let v115 : BitVec 32 := Scalar.extui v114
  let c0_i32_57 : BitVec 32 := 0#32
  let v116 : BitVec 1 := Scalar.cmpi .slt c2_i32_53 c0_i32_57
  let v117 : BitVec 32 := Scalar.extui v116
  let v118 : BitVec 32 := Scalar.subi v115 v117
  let v119 : BitVec 1 := Scalar.cmpi .ne v113 v118
  let v120 : BitVec 32 := Scalar.remsi v107 c2_i32_53
  let c0_i32_58 : BitVec 32 := 0#32
  let v121 : BitVec 1 := Scalar.cmpi .ne v120 c0_i32_58
  let v122 : BitVec 1 := Scalar.andi v119 v121
  let v108 : BitVec 32 := Scalar.divsi v107 c2_i32_53
  let c1_i32_59 : BitVec 32 := 1#32
  let v123 : BitVec 32 := Scalar.subi v108 c1_i32_59
  let v124 : BitVec 32 := Scalar.select v122 v123 v108
  let c2_i32_75 : BitVec 32 := 2#32
  let v143 : BitVec 32 := Scalar.muli v124 c2_i32_75
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v145 : BitVec 32 := Scalar.muli v8 c1_i32_76
  let v146 : BitVec 32 := Scalar.addi v144 v145
  v146.toNat
def k0_off2 (d0 : Dev nD) (c0_i32_95 : BitVec 32) : Fin 2 → Nat :=
  let c256_i32_94 : BitVec 32 := 256#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c4_i32_87 : BitVec 32 := 4#32
  let c0_i32_88 : BitVec 32 := 0#32
  let v163 : BitVec 1 := Scalar.cmpi .eq c4_i32_87 c0_i32_88
  let c1_i32_89 : BitVec 32 := 1#32
  let v164 : BitVec 32 := Scalar.select v163 c1_i32_89 c4_i32_87
  let v165 : BitVec 32 := Scalar.remsi v12 v164
  let c0_i32_91 : BitVec 32 := 0#32
  let v167 : BitVec 1 := Scalar.cmpi .slt v165 c0_i32_91
  let c0_i32_92 : BitVec 32 := 0#32
  let v168 : BitVec 1 := Scalar.cmpi .slt v164 c0_i32_92
  let v169 : BitVec 1 := Scalar.xori v167 v168
  let c0_i32_90 : BitVec 32 := 0#32
  let v166 : BitVec 1 := Scalar.cmpi .ne v165 c0_i32_90
  let v170 : BitVec 1 := Scalar.andi v169 v166
  let v171 : BitVec 32 := Scalar.addi v165 v164
  let v172 : BitVec 32 := Scalar.select v170 v171 v165
  let c448_i32_93 : BitVec 32 := 448#32
  let v173 : BitVec 32 := Scalar.muli v172 c448_i32_93
  let v174 : BitVec 32 := Scalar.addi c256_i32_94 v173
  let v175 : BitVec 32 := Scalar.addi v174 c0_i32_95
  let c0_i32_545 : BitVec 32 := 0#32
  ![v175.toNat, 0]
def k0_off3 (d0 : Dev nD) (c0_i32_86 : BitVec 32) : Fin 3 → Nat :=
  let c0_i32_538 : BitVec 32 := 0#32
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v147 : BitVec 32 := Scalar.subi c1_i32_78 v8
  let c2048_i32_79 : BitVec 32 := 2048#32
  let v148 : BitVec 32 := Scalar.muli v147 c2048_i32_79
  let c256_i32 : BitVec 32 := 256#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c4_i32_80 : BitVec 32 := 4#32
  let c0_i32_81 : BitVec 32 := 0#32
  let v149 : BitVec 1 := Scalar.cmpi .eq c4_i32_80 c0_i32_81
  let c1_i32_82 : BitVec 32 := 1#32
  let v150 : BitVec 32 := Scalar.select v149 c1_i32_82 c4_i32_80
  let v151 : BitVec 32 := Scalar.remsi v12 v150
  let c0_i32_84 : BitVec 32 := 0#32
  let v153 : BitVec 1 := Scalar.cmpi .slt v151 c0_i32_84
  let c0_i32_85 : BitVec 32 := 0#32
  let v154 : BitVec 1 := Scalar.cmpi .slt v150 c0_i32_85
  let v155 : BitVec 1 := Scalar.xori v153 v154
  let c0_i32_83 : BitVec 32 := 0#32
  let v152 : BitVec 1 := Scalar.cmpi .ne v151 c0_i32_83
  let v156 : BitVec 1 := Scalar.andi v155 v152
  let v157 : BitVec 32 := Scalar.addi v151 v150
  let v158 : BitVec 32 := Scalar.select v156 v157 v151
  let c448_i32 : BitVec 32 := 448#32
  let v159 : BitVec 32 := Scalar.muli v158 c448_i32
  let v160 : BitVec 32 := Scalar.addi c256_i32 v159
  let v161 : BitVec 32 := Scalar.addi v160 c0_i32_86
  let v162 : BitVec 32 := Scalar.addi v148 v161
  let c0_i32_546 : BitVec 32 := 0#32
  ![0, v162.toNat, 0]
def k0_dev4 (d0 : Dev nD) : Nat :=
  let c0_i32_542 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_541 : BitVec 32 := 4#32
  let v809 : BitVec 32 := Scalar.muli v2 c4_i32_541
  let v810 : BitVec 32 := Scalar.addi c0_i32_542 v809
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_543 : BitVec 32 := 2#32
  let v811 : BitVec 32 := Scalar.muli v5 c2_i32_543
  let v812 : BitVec 32 := Scalar.addi v810 v811
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_544 : BitVec 32 := 1#32
  let v813 : BitVec 32 := Scalar.muli v9 c1_i32_544
  let v814 : BitVec 32 := Scalar.addi v812 v813
  v814.toNat
def k0_dev5 (d0 : Dev nD) : Nat :=
  let c0_i32_551 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_550 : BitVec 32 := 4#32
  let v822 : BitVec 32 := Scalar.muli v2 c4_i32_550
  let v823 : BitVec 32 := Scalar.addi c0_i32_551 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_552 : BitVec 32 := 2#32
  let v824 : BitVec 32 := Scalar.muli v5 c2_i32_552
  let v825 : BitVec 32 := Scalar.addi v823 v824
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_553 : BitVec 32 := 1#32
  let v826 : BitVec 32 := Scalar.muli v9 c1_i32_553
  let v827 : BitVec 32 := Scalar.addi v825 v826
  v827.toNat
def k0_dev6 (d0 : Dev nD) : Nat :=
  let c0_i32_560 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_559 : BitVec 32 := 4#32
  let v835 : BitVec 32 := Scalar.muli v2 c4_i32_559
  let v836 : BitVec 32 := Scalar.addi c0_i32_560 v835
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_561 : BitVec 32 := 2#32
  let v837 : BitVec 32 := Scalar.muli v5 c2_i32_561
  let v838 : BitVec 32 := Scalar.addi v836 v837
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_562 : BitVec 32 := 1#32
  let v839 : BitVec 32 := Scalar.muli v9 c1_i32_562
  let v840 : BitVec 32 := Scalar.addi v838 v839
  v840.toNat
def k0_dev7 (d0 : Dev nD) : Nat :=
  let c0_i32_569 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_568 : BitVec 32 := 4#32
  let v848 : BitVec 32 := Scalar.muli v2 c4_i32_568
  let v849 : BitVec 32 := Scalar.addi c0_i32_569 v848
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_570 : BitVec 32 := 2#32
  let v850 : BitVec 32 := Scalar.muli v5 c2_i32_570
  let v851 : BitVec 32 := Scalar.addi v849 v850
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_571 : BitVec 32 := 1#32
  let v852 : BitVec 32 := Scalar.muli v9 c1_i32_571
  let v853 : BitVec 32 := Scalar.addi v851 v852
  v853.toNat
def k0_off4 (d0 : Dev nD) (c0_i32_155 : BitVec 32) : Fin 3 → Nat :=
  let c0_i32_574 : BitVec 32 := 0#32
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v263 : BitVec 32 := Scalar.subi c1_i32_153 v8
  let c2048_i32_154 : BitVec 32 := 2048#32
  let v264 : BitVec 32 := Scalar.muli v263 c2048_i32_154
  let v265 : BitVec 32 := Scalar.addi v264 c0_i32_155
  let c0_i32_583 : BitVec 32 := 0#32
  ![0, v265.toNat, 0]
def k0_dev8 (d0 : Dev nD) : Nat :=
  let c0_i32_578 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_577 : BitVec 32 := 4#32
  let v861 : BitVec 32 := Scalar.muli v2 c4_i32_577
  let v862 : BitVec 32 := Scalar.addi c0_i32_578 v861
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_579 : BitVec 32 := 2#32
  let v863 : BitVec 32 := Scalar.muli v5 c2_i32_579
  let v864 : BitVec 32 := Scalar.addi v862 v863
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_580 : BitVec 32 := 1#32
  let v865 : BitVec 32 := Scalar.muli v9 c1_i32_580
  let v866 : BitVec 32 := Scalar.addi v864 v865
  v866.toNat
def k0_dev9 (d0 : Dev nD) : Nat :=
  let c0_i32_588 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_587 : BitVec 32 := 4#32
  let v874 : BitVec 32 := Scalar.muli v2 c4_i32_587
  let v875 : BitVec 32 := Scalar.addi c0_i32_588 v874
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_589 : BitVec 32 := 2#32
  let v876 : BitVec 32 := Scalar.muli v5 c2_i32_589
  let v877 : BitVec 32 := Scalar.addi v875 v876
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_590 : BitVec 32 := 1#32
  let v878 : BitVec 32 := Scalar.muli v9 c1_i32_590
  let v879 : BitVec 32 := Scalar.addi v877 v878
  v879.toNat
def k0_dev10 (d0 : Dev nD) : Nat :=
  let c0_i32_607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_32 : BitVec 32 := 1#32
  let v69 : BitVec 32 := Scalar.addi v12 c1_i32_32
  let c4_i32_33 : BitVec 32 := 4#32
  let c0_i32_34 : BitVec 32 := 0#32
  let v70 : BitVec 1 := Scalar.cmpi .eq c4_i32_33 c0_i32_34
  let c1_i32_35 : BitVec 32 := 1#32
  let v71 : BitVec 32 := Scalar.select v70 c1_i32_35 c4_i32_33
  let v72 : BitVec 32 := Scalar.remsi v69 v71
  let c0_i32_37 : BitVec 32 := 0#32
  let v74 : BitVec 1 := Scalar.cmpi .slt v72 c0_i32_37
  let c0_i32_38 : BitVec 32 := 0#32
  let v75 : BitVec 1 := Scalar.cmpi .slt v71 c0_i32_38
  let v76 : BitVec 1 := Scalar.xori v74 v75
  let c0_i32_36 : BitVec 32 := 0#32
  let v73 : BitVec 1 := Scalar.cmpi .ne v72 c0_i32_36
  let v77 : BitVec 1 := Scalar.andi v76 v73
  let v78 : BitVec 32 := Scalar.addi v72 v71
  let v79 : BitVec 32 := Scalar.select v77 v78 v72
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c2_i32_39 : BitVec 32 := 2#32
  let c0_i32_42 : BitVec 32 := 0#32
  let v86 : BitVec 1 := Scalar.cmpi .sgt c2_i32_39 c0_i32_42
  let v87 : BitVec 32 := Scalar.extui v86
  let c0_i32_43 : BitVec 32 := 0#32
  let v88 : BitVec 1 := Scalar.cmpi .slt c2_i32_39 c0_i32_43
  let v89 : BitVec 32 := Scalar.extui v88
  let v90 : BitVec 32 := Scalar.subi v87 v89
  let v91 : BitVec 1 := Scalar.cmpi .ne v85 v90
  let v92 : BitVec 32 := Scalar.remsi v79 c2_i32_39
  let c0_i32_44 : BitVec 32 := 0#32
  let v93 : BitVec 1 := Scalar.cmpi .ne v92 c0_i32_44
  let v94 : BitVec 1 := Scalar.andi v91 v93
  let v80 : BitVec 32 := Scalar.divsi v79 c2_i32_39
  let c1_i32_45 : BitVec 32 := 1#32
  let v95 : BitVec 32 := Scalar.subi v80 c1_i32_45
  let v96 : BitVec 32 := Scalar.select v94 v95 v80
  let c4_i32_606 : BitVec 32 := 4#32
  let v899 : BitVec 32 := Scalar.muli v96 c4_i32_606
  let v900 : BitVec 32 := Scalar.addi c0_i32_607 v899
  let c1_i32_46 : BitVec 32 := 1#32
  let v97 : BitVec 32 := Scalar.addi v79 c1_i32_46
  let c4_i32_47 : BitVec 32 := 4#32
  let c0_i32_48 : BitVec 32 := 0#32
  let v98 : BitVec 1 := Scalar.cmpi .eq c4_i32_47 c0_i32_48
  let c1_i32_49 : BitVec 32 := 1#32
  let v99 : BitVec 32 := Scalar.select v98 c1_i32_49 c4_i32_47
  let v100 : BitVec 32 := Scalar.remsi v97 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let c0_i32_54 : BitVec 32 := 0#32
  let v109 : BitVec 1 := Scalar.cmpi .sgt v107 c0_i32_54
  let v110 : BitVec 32 := Scalar.extui v109
  let c0_i32_55 : BitVec 32 := 0#32
  let v111 : BitVec 1 := Scalar.cmpi .slt v107 c0_i32_55
  let v112 : BitVec 32 := Scalar.extui v111
  let v113 : BitVec 32 := Scalar.subi v110 v112
  let c2_i32_53 : BitVec 32 := 2#32
  let c0_i32_56 : BitVec 32 := 0#32
  let v114 : BitVec 1 := Scalar.cmpi .sgt c2_i32_53 c0_i32_56
  let v115 : BitVec 32 := Scalar.extui v114
  let c0_i32_57 : BitVec 32 := 0#32
  let v116 : BitVec 1 := Scalar.cmpi .slt c2_i32_53 c0_i32_57
  let v117 : BitVec 32 := Scalar.extui v116
  let v118 : BitVec 32 := Scalar.subi v115 v117
  let v119 : BitVec 1 := Scalar.cmpi .ne v113 v118
  let v120 : BitVec 32 := Scalar.remsi v107 c2_i32_53
  let c0_i32_58 : BitVec 32 := 0#32
  let v121 : BitVec 1 := Scalar.cmpi .ne v120 c0_i32_58
  let v122 : BitVec 1 := Scalar.andi v119 v121
  let v108 : BitVec 32 := Scalar.divsi v107 c2_i32_53
  let c1_i32_59 : BitVec 32 := 1#32
  let v123 : BitVec 32 := Scalar.subi v108 c1_i32_59
  let v124 : BitVec 32 := Scalar.select v122 v123 v108
  let c2_i32_608 : BitVec 32 := 2#32
  let v901 : BitVec 32 := Scalar.muli v124 c2_i32_608
  let v902 : BitVec 32 := Scalar.addi v900 v901
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_609 : BitVec 32 := 1#32
  let v903 : BitVec 32 := Scalar.muli v8 c1_i32_609
  let v904 : BitVec 32 := Scalar.addi v902 v903
  v904.toNat
def k0_dev11 (d0 : Dev nD) : Nat :=
  let c0_i32_615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_4 : BitVec 32 := 1#32
  let v13 : BitVec 32 := Scalar.subi v12 c1_i32_4
  let c4_i32_5 : BitVec 32 := 4#32
  let c0_i32_6 : BitVec 32 := 0#32
  let v14 : BitVec 1 := Scalar.cmpi .eq c4_i32_5 c0_i32_6
  let c1_i32_7 : BitVec 32 := 1#32
  let v15 : BitVec 32 := Scalar.select v14 c1_i32_7 c4_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_614 : BitVec 32 := 4#32
  let v911 : BitVec 32 := Scalar.muli v40 c4_i32_614
  let v912 : BitVec 32 := Scalar.addi c0_i32_615 v911
  let c1_i32_18 : BitVec 32 := 1#32
  let v41 : BitVec 32 := Scalar.addi v23 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c0_i32_26 : BitVec 32 := 0#32
  let v53 : BitVec 1 := Scalar.cmpi .sgt v51 c0_i32_26
  let v54 : BitVec 32 := Scalar.extui v53
  let c0_i32_27 : BitVec 32 := 0#32
  let v55 : BitVec 1 := Scalar.cmpi .slt v51 c0_i32_27
  let v56 : BitVec 32 := Scalar.extui v55
  let v57 : BitVec 32 := Scalar.subi v54 v56
  let c2_i32_25 : BitVec 32 := 2#32
  let c0_i32_28 : BitVec 32 := 0#32
  let v58 : BitVec 1 := Scalar.cmpi .sgt c2_i32_25 c0_i32_28
  let v59 : BitVec 32 := Scalar.extui v58
  let c0_i32_29 : BitVec 32 := 0#32
  let v60 : BitVec 1 := Scalar.cmpi .slt c2_i32_25 c0_i32_29
  let v61 : BitVec 32 := Scalar.extui v60
  let v62 : BitVec 32 := Scalar.subi v59 v61
  let v63 : BitVec 1 := Scalar.cmpi .ne v57 v62
  let v64 : BitVec 32 := Scalar.remsi v51 c2_i32_25
  let c0_i32_30 : BitVec 32 := 0#32
  let v65 : BitVec 1 := Scalar.cmpi .ne v64 c0_i32_30
  let v66 : BitVec 1 := Scalar.andi v63 v65
  let v52 : BitVec 32 := Scalar.divsi v51 c2_i32_25
  let c1_i32_31 : BitVec 32 := 1#32
  let v67 : BitVec 32 := Scalar.subi v52 c1_i32_31
  let v68 : BitVec 32 := Scalar.select v66 v67 v52
  let c2_i32_616 : BitVec 32 := 2#32
  let v913 : BitVec 32 := Scalar.muli v68 c2_i32_616
  let v914 : BitVec 32 := Scalar.addi v912 v913
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_617 : BitVec 32 := 1#32
  let v915 : BitVec 32 := Scalar.muli v8 c1_i32_617
  let v916 : BitVec 32 := Scalar.addi v914 v915
  v916.toNat
def k0_off5 (d0 : Dev nD) (c0_i32_628 : BitVec 32) : Fin 2 → Nat :=
  let c256_i32_627 : BitVec 32 := 256#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c4_i32_620 : BitVec 32 := 4#32
  let c0_i32_621 : BitVec 32 := 0#32
  let v923 : BitVec 1 := Scalar.cmpi .eq c4_i32_620 c0_i32_621
  let c1_i32_622 : BitVec 32 := 1#32
  let v924 : BitVec 32 := Scalar.select v923 c1_i32_622 c4_i32_620
  let v925 : BitVec 32 := Scalar.remsi v12 v924
  let c0_i32_624 : BitVec 32 := 0#32
  let v927 : BitVec 1 := Scalar.cmpi .slt v925 c0_i32_624
  let c0_i32_625 : BitVec 32 := 0#32
  let v928 : BitVec 1 := Scalar.cmpi .slt v924 c0_i32_625
  let v929 : BitVec 1 := Scalar.xori v927 v928
  let c0_i32_623 : BitVec 32 := 0#32
  let v926 : BitVec 1 := Scalar.cmpi .ne v925 c0_i32_623
  let v930 : BitVec 1 := Scalar.andi v929 v926
  let v931 : BitVec 32 := Scalar.addi v925 v924
  let v932 : BitVec 32 := Scalar.select v930 v931 v925
  let c448_i32_626 : BitVec 32 := 448#32
  let v933 : BitVec 32 := Scalar.muli v932 c448_i32_626
  let v934 : BitVec 32 := Scalar.addi c256_i32_627 v933
  let v935 : BitVec 32 := Scalar.addi v934 c0_i32_628
  let v936 : Index := Scalar.indexCast v935
  let c0 : Index := 0#32
  ![v936.toNat, 0]
def k0_dev12 (d0 : Dev nD) : Nat :=
  let c0_i32_648 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_32 : BitVec 32 := 1#32
  let v69 : BitVec 32 := Scalar.addi v12 c1_i32_32
  let c4_i32_33 : BitVec 32 := 4#32
  let c0_i32_34 : BitVec 32 := 0#32
  let v70 : BitVec 1 := Scalar.cmpi .eq c4_i32_33 c0_i32_34
  let c1_i32_35 : BitVec 32 := 1#32
  let v71 : BitVec 32 := Scalar.select v70 c1_i32_35 c4_i32_33
  let v72 : BitVec 32 := Scalar.remsi v69 v71
  let c0_i32_37 : BitVec 32 := 0#32
  let v74 : BitVec 1 := Scalar.cmpi .slt v72 c0_i32_37
  let c0_i32_38 : BitVec 32 := 0#32
  let v75 : BitVec 1 := Scalar.cmpi .slt v71 c0_i32_38
  let v76 : BitVec 1 := Scalar.xori v74 v75
  let c0_i32_36 : BitVec 32 := 0#32
  let v73 : BitVec 1 := Scalar.cmpi .ne v72 c0_i32_36
  let v77 : BitVec 1 := Scalar.andi v76 v73
  let v78 : BitVec 32 := Scalar.addi v72 v71
  let v79 : BitVec 32 := Scalar.select v77 v78 v72
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c2_i32_39 : BitVec 32 := 2#32
  let c0_i32_42 : BitVec 32 := 0#32
  let v86 : BitVec 1 := Scalar.cmpi .sgt c2_i32_39 c0_i32_42
  let v87 : BitVec 32 := Scalar.extui v86
  let c0_i32_43 : BitVec 32 := 0#32
  let v88 : BitVec 1 := Scalar.cmpi .slt c2_i32_39 c0_i32_43
  let v89 : BitVec 32 := Scalar.extui v88
  let v90 : BitVec 32 := Scalar.subi v87 v89
  let v91 : BitVec 1 := Scalar.cmpi .ne v85 v90
  let v92 : BitVec 32 := Scalar.remsi v79 c2_i32_39
  let c0_i32_44 : BitVec 32 := 0#32
  let v93 : BitVec 1 := Scalar.cmpi .ne v92 c0_i32_44
  let v94 : BitVec 1 := Scalar.andi v91 v93
  let v80 : BitVec 32 := Scalar.divsi v79 c2_i32_39
  let c1_i32_45 : BitVec 32 := 1#32
  let v95 : BitVec 32 := Scalar.subi v80 c1_i32_45
  let v96 : BitVec 32 := Scalar.select v94 v95 v80
  let c4_i32_647 : BitVec 32 := 4#32
  let v974 : BitVec 32 := Scalar.muli v96 c4_i32_647
  let v975 : BitVec 32 := Scalar.addi c0_i32_648 v974
  let c1_i32_46 : BitVec 32 := 1#32
  let v97 : BitVec 32 := Scalar.addi v79 c1_i32_46
  let c4_i32_47 : BitVec 32 := 4#32
  let c0_i32_48 : BitVec 32 := 0#32
  let v98 : BitVec 1 := Scalar.cmpi .eq c4_i32_47 c0_i32_48
  let c1_i32_49 : BitVec 32 := 1#32
  let v99 : BitVec 32 := Scalar.select v98 c1_i32_49 c4_i32_47
  let v100 : BitVec 32 := Scalar.remsi v97 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let c0_i32_54 : BitVec 32 := 0#32
  let v109 : BitVec 1 := Scalar.cmpi .sgt v107 c0_i32_54
  let v110 : BitVec 32 := Scalar.extui v109
  let c0_i32_55 : BitVec 32 := 0#32
  let v111 : BitVec 1 := Scalar.cmpi .slt v107 c0_i32_55
  let v112 : BitVec 32 := Scalar.extui v111
  let v113 : BitVec 32 := Scalar.subi v110 v112
  let c2_i32_53 : BitVec 32 := 2#32
  let c0_i32_56 : BitVec 32 := 0#32
  let v114 : BitVec 1 := Scalar.cmpi .sgt c2_i32_53 c0_i32_56
  let v115 : BitVec 32 := Scalar.extui v114
  let c0_i32_57 : BitVec 32 := 0#32
  let v116 : BitVec 1 := Scalar.cmpi .slt c2_i32_53 c0_i32_57
  let v117 : BitVec 32 := Scalar.extui v116
  let v118 : BitVec 32 := Scalar.subi v115 v117
  let v119 : BitVec 1 := Scalar.cmpi .ne v113 v118
  let v120 : BitVec 32 := Scalar.remsi v107 c2_i32_53
  let c0_i32_58 : BitVec 32 := 0#32
  let v121 : BitVec 1 := Scalar.cmpi .ne v120 c0_i32_58
  let v122 : BitVec 1 := Scalar.andi v119 v121
  let v108 : BitVec 32 := Scalar.divsi v107 c2_i32_53
  let c1_i32_59 : BitVec 32 := 1#32
  let v123 : BitVec 32 := Scalar.subi v108 c1_i32_59
  let v124 : BitVec 32 := Scalar.select v122 v123 v108
  let c2_i32_649 : BitVec 32 := 2#32
  let v976 : BitVec 32 := Scalar.muli v124 c2_i32_649
  let v977 : BitVec 32 := Scalar.addi v975 v976
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_650 : BitVec 32 := 1#32
  let v978 : BitVec 32 := Scalar.muli v8 c1_i32_650
  let v979 : BitVec 32 := Scalar.addi v977 v978
  v979.toNat
def k0_dev13 (d0 : Dev nD) : Nat :=
  let c0_i32_656 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_4 : BitVec 32 := 1#32
  let v13 : BitVec 32 := Scalar.subi v12 c1_i32_4
  let c4_i32_5 : BitVec 32 := 4#32
  let c0_i32_6 : BitVec 32 := 0#32
  let v14 : BitVec 1 := Scalar.cmpi .eq c4_i32_5 c0_i32_6
  let c1_i32_7 : BitVec 32 := 1#32
  let v15 : BitVec 32 := Scalar.select v14 c1_i32_7 c4_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_655 : BitVec 32 := 4#32
  let v986 : BitVec 32 := Scalar.muli v40 c4_i32_655
  let v987 : BitVec 32 := Scalar.addi c0_i32_656 v986
  let c1_i32_18 : BitVec 32 := 1#32
  let v41 : BitVec 32 := Scalar.addi v23 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c0_i32_26 : BitVec 32 := 0#32
  let v53 : BitVec 1 := Scalar.cmpi .sgt v51 c0_i32_26
  let v54 : BitVec 32 := Scalar.extui v53
  let c0_i32_27 : BitVec 32 := 0#32
  let v55 : BitVec 1 := Scalar.cmpi .slt v51 c0_i32_27
  let v56 : BitVec 32 := Scalar.extui v55
  let v57 : BitVec 32 := Scalar.subi v54 v56
  let c2_i32_25 : BitVec 32 := 2#32
  let c0_i32_28 : BitVec 32 := 0#32
  let v58 : BitVec 1 := Scalar.cmpi .sgt c2_i32_25 c0_i32_28
  let v59 : BitVec 32 := Scalar.extui v58
  let c0_i32_29 : BitVec 32 := 0#32
  let v60 : BitVec 1 := Scalar.cmpi .slt c2_i32_25 c0_i32_29
  let v61 : BitVec 32 := Scalar.extui v60
  let v62 : BitVec 32 := Scalar.subi v59 v61
  let v63 : BitVec 1 := Scalar.cmpi .ne v57 v62
  let v64 : BitVec 32 := Scalar.remsi v51 c2_i32_25
  let c0_i32_30 : BitVec 32 := 0#32
  let v65 : BitVec 1 := Scalar.cmpi .ne v64 c0_i32_30
  let v66 : BitVec 1 := Scalar.andi v63 v65
  let v52 : BitVec 32 := Scalar.divsi v51 c2_i32_25
  let c1_i32_31 : BitVec 32 := 1#32
  let v67 : BitVec 32 := Scalar.subi v52 c1_i32_31
  let v68 : BitVec 32 := Scalar.select v66 v67 v52
  let c2_i32_657 : BitVec 32 := 2#32
  let v988 : BitVec 32 := Scalar.muli v68 c2_i32_657
  let v989 : BitVec 32 := Scalar.addi v987 v988
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_658 : BitVec 32 := 1#32
  let v990 : BitVec 32 := Scalar.muli v8 c1_i32_658
  let v991 : BitVec 32 := Scalar.addi v989 v990
  v991.toNat
def k0_dev14 (d0 : Dev nD) : Nat :=
  let c0_i32_691 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_32 : BitVec 32 := 1#32
  let v69 : BitVec 32 := Scalar.addi v12 c1_i32_32
  let c4_i32_33 : BitVec 32 := 4#32
  let c0_i32_34 : BitVec 32 := 0#32
  let v70 : BitVec 1 := Scalar.cmpi .eq c4_i32_33 c0_i32_34
  let c1_i32_35 : BitVec 32 := 1#32
  let v71 : BitVec 32 := Scalar.select v70 c1_i32_35 c4_i32_33
  let v72 : BitVec 32 := Scalar.remsi v69 v71
  let c0_i32_37 : BitVec 32 := 0#32
  let v74 : BitVec 1 := Scalar.cmpi .slt v72 c0_i32_37
  let c0_i32_38 : BitVec 32 := 0#32
  let v75 : BitVec 1 := Scalar.cmpi .slt v71 c0_i32_38
  let v76 : BitVec 1 := Scalar.xori v74 v75
  let c0_i32_36 : BitVec 32 := 0#32
  let v73 : BitVec 1 := Scalar.cmpi .ne v72 c0_i32_36
  let v77 : BitVec 1 := Scalar.andi v76 v73
  let v78 : BitVec 32 := Scalar.addi v72 v71
  let v79 : BitVec 32 := Scalar.select v77 v78 v72
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c2_i32_39 : BitVec 32 := 2#32
  let c0_i32_42 : BitVec 32 := 0#32
  let v86 : BitVec 1 := Scalar.cmpi .sgt c2_i32_39 c0_i32_42
  let v87 : BitVec 32 := Scalar.extui v86
  let c0_i32_43 : BitVec 32 := 0#32
  let v88 : BitVec 1 := Scalar.cmpi .slt c2_i32_39 c0_i32_43
  let v89 : BitVec 32 := Scalar.extui v88
  let v90 : BitVec 32 := Scalar.subi v87 v89
  let v91 : BitVec 1 := Scalar.cmpi .ne v85 v90
  let v92 : BitVec 32 := Scalar.remsi v79 c2_i32_39
  let c0_i32_44 : BitVec 32 := 0#32
  let v93 : BitVec 1 := Scalar.cmpi .ne v92 c0_i32_44
  let v94 : BitVec 1 := Scalar.andi v91 v93
  let v80 : BitVec 32 := Scalar.divsi v79 c2_i32_39
  let c1_i32_45 : BitVec 32 := 1#32
  let v95 : BitVec 32 := Scalar.subi v80 c1_i32_45
  let v96 : BitVec 32 := Scalar.select v94 v95 v80
  let c4_i32_690 : BitVec 32 := 4#32
  let v1049 : BitVec 32 := Scalar.muli v96 c4_i32_690
  let v1050 : BitVec 32 := Scalar.addi c0_i32_691 v1049
  let c1_i32_46 : BitVec 32 := 1#32
  let v97 : BitVec 32 := Scalar.addi v79 c1_i32_46
  let c4_i32_47 : BitVec 32 := 4#32
  let c0_i32_48 : BitVec 32 := 0#32
  let v98 : BitVec 1 := Scalar.cmpi .eq c4_i32_47 c0_i32_48
  let c1_i32_49 : BitVec 32 := 1#32
  let v99 : BitVec 32 := Scalar.select v98 c1_i32_49 c4_i32_47
  let v100 : BitVec 32 := Scalar.remsi v97 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let c0_i32_54 : BitVec 32 := 0#32
  let v109 : BitVec 1 := Scalar.cmpi .sgt v107 c0_i32_54
  let v110 : BitVec 32 := Scalar.extui v109
  let c0_i32_55 : BitVec 32 := 0#32
  let v111 : BitVec 1 := Scalar.cmpi .slt v107 c0_i32_55
  let v112 : BitVec 32 := Scalar.extui v111
  let v113 : BitVec 32 := Scalar.subi v110 v112
  let c2_i32_53 : BitVec 32 := 2#32
  let c0_i32_56 : BitVec 32 := 0#32
  let v114 : BitVec 1 := Scalar.cmpi .sgt c2_i32_53 c0_i32_56
  let v115 : BitVec 32 := Scalar.extui v114
  let c0_i32_57 : BitVec 32 := 0#32
  let v116 : BitVec 1 := Scalar.cmpi .slt c2_i32_53 c0_i32_57
  let v117 : BitVec 32 := Scalar.extui v116
  let v118 : BitVec 32 := Scalar.subi v115 v117
  let v119 : BitVec 1 := Scalar.cmpi .ne v113 v118
  let v120 : BitVec 32 := Scalar.remsi v107 c2_i32_53
  let c0_i32_58 : BitVec 32 := 0#32
  let v121 : BitVec 1 := Scalar.cmpi .ne v120 c0_i32_58
  let v122 : BitVec 1 := Scalar.andi v119 v121
  let v108 : BitVec 32 := Scalar.divsi v107 c2_i32_53
  let c1_i32_59 : BitVec 32 := 1#32
  let v123 : BitVec 32 := Scalar.subi v108 c1_i32_59
  let v124 : BitVec 32 := Scalar.select v122 v123 v108
  let c2_i32_692 : BitVec 32 := 2#32
  let v1051 : BitVec 32 := Scalar.muli v124 c2_i32_692
  let v1052 : BitVec 32 := Scalar.addi v1050 v1051
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_693 : BitVec 32 := 1#32
  let v1053 : BitVec 32 := Scalar.muli v8 c1_i32_693
  let v1054 : BitVec 32 := Scalar.addi v1052 v1053
  v1054.toNat
def k0_dev15 (d0 : Dev nD) : Nat :=
  let c0_i32_699 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_4 : BitVec 32 := 1#32
  let v13 : BitVec 32 := Scalar.subi v12 c1_i32_4
  let c4_i32_5 : BitVec 32 := 4#32
  let c0_i32_6 : BitVec 32 := 0#32
  let v14 : BitVec 1 := Scalar.cmpi .eq c4_i32_5 c0_i32_6
  let c1_i32_7 : BitVec 32 := 1#32
  let v15 : BitVec 32 := Scalar.select v14 c1_i32_7 c4_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_698 : BitVec 32 := 4#32
  let v1061 : BitVec 32 := Scalar.muli v40 c4_i32_698
  let v1062 : BitVec 32 := Scalar.addi c0_i32_699 v1061
  let c1_i32_18 : BitVec 32 := 1#32
  let v41 : BitVec 32 := Scalar.addi v23 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c0_i32_26 : BitVec 32 := 0#32
  let v53 : BitVec 1 := Scalar.cmpi .sgt v51 c0_i32_26
  let v54 : BitVec 32 := Scalar.extui v53
  let c0_i32_27 : BitVec 32 := 0#32
  let v55 : BitVec 1 := Scalar.cmpi .slt v51 c0_i32_27
  let v56 : BitVec 32 := Scalar.extui v55
  let v57 : BitVec 32 := Scalar.subi v54 v56
  let c2_i32_25 : BitVec 32 := 2#32
  let c0_i32_28 : BitVec 32 := 0#32
  let v58 : BitVec 1 := Scalar.cmpi .sgt c2_i32_25 c0_i32_28
  let v59 : BitVec 32 := Scalar.extui v58
  let c0_i32_29 : BitVec 32 := 0#32
  let v60 : BitVec 1 := Scalar.cmpi .slt c2_i32_25 c0_i32_29
  let v61 : BitVec 32 := Scalar.extui v60
  let v62 : BitVec 32 := Scalar.subi v59 v61
  let v63 : BitVec 1 := Scalar.cmpi .ne v57 v62
  let v64 : BitVec 32 := Scalar.remsi v51 c2_i32_25
  let c0_i32_30 : BitVec 32 := 0#32
  let v65 : BitVec 1 := Scalar.cmpi .ne v64 c0_i32_30
  let v66 : BitVec 1 := Scalar.andi v63 v65
  let v52 : BitVec 32 := Scalar.divsi v51 c2_i32_25
  let c1_i32_31 : BitVec 32 := 1#32
  let v67 : BitVec 32 := Scalar.subi v52 c1_i32_31
  let v68 : BitVec 32 := Scalar.select v66 v67 v52
  let c2_i32_700 : BitVec 32 := 2#32
  let v1063 : BitVec 32 := Scalar.muli v68 c2_i32_700
  let v1064 : BitVec 32 := Scalar.addi v1062 v1063
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_701 : BitVec 32 := 1#32
  let v1065 : BitVec 32 := Scalar.muli v8 c1_i32_701
  let v1066 : BitVec 32 := Scalar.addi v1064 v1065
  v1066.toNat
def k0_dev16 (d0 : Dev nD) : Nat :=
  let c0_i32_734 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_32 : BitVec 32 := 1#32
  let v69 : BitVec 32 := Scalar.addi v12 c1_i32_32
  let c4_i32_33 : BitVec 32 := 4#32
  let c0_i32_34 : BitVec 32 := 0#32
  let v70 : BitVec 1 := Scalar.cmpi .eq c4_i32_33 c0_i32_34
  let c1_i32_35 : BitVec 32 := 1#32
  let v71 : BitVec 32 := Scalar.select v70 c1_i32_35 c4_i32_33
  let v72 : BitVec 32 := Scalar.remsi v69 v71
  let c0_i32_37 : BitVec 32 := 0#32
  let v74 : BitVec 1 := Scalar.cmpi .slt v72 c0_i32_37
  let c0_i32_38 : BitVec 32 := 0#32
  let v75 : BitVec 1 := Scalar.cmpi .slt v71 c0_i32_38
  let v76 : BitVec 1 := Scalar.xori v74 v75
  let c0_i32_36 : BitVec 32 := 0#32
  let v73 : BitVec 1 := Scalar.cmpi .ne v72 c0_i32_36
  let v77 : BitVec 1 := Scalar.andi v76 v73
  let v78 : BitVec 32 := Scalar.addi v72 v71
  let v79 : BitVec 32 := Scalar.select v77 v78 v72
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c2_i32_39 : BitVec 32 := 2#32
  let c0_i32_42 : BitVec 32 := 0#32
  let v86 : BitVec 1 := Scalar.cmpi .sgt c2_i32_39 c0_i32_42
  let v87 : BitVec 32 := Scalar.extui v86
  let c0_i32_43 : BitVec 32 := 0#32
  let v88 : BitVec 1 := Scalar.cmpi .slt c2_i32_39 c0_i32_43
  let v89 : BitVec 32 := Scalar.extui v88
  let v90 : BitVec 32 := Scalar.subi v87 v89
  let v91 : BitVec 1 := Scalar.cmpi .ne v85 v90
  let v92 : BitVec 32 := Scalar.remsi v79 c2_i32_39
  let c0_i32_44 : BitVec 32 := 0#32
  let v93 : BitVec 1 := Scalar.cmpi .ne v92 c0_i32_44
  let v94 : BitVec 1 := Scalar.andi v91 v93
  let v80 : BitVec 32 := Scalar.divsi v79 c2_i32_39
  let c1_i32_45 : BitVec 32 := 1#32
  let v95 : BitVec 32 := Scalar.subi v80 c1_i32_45
  let v96 : BitVec 32 := Scalar.select v94 v95 v80
  let c4_i32_733 : BitVec 32 := 4#32
  let v1124 : BitVec 32 := Scalar.muli v96 c4_i32_733
  let v1125 : BitVec 32 := Scalar.addi c0_i32_734 v1124
  let c1_i32_46 : BitVec 32 := 1#32
  let v97 : BitVec 32 := Scalar.addi v79 c1_i32_46
  let c4_i32_47 : BitVec 32 := 4#32
  let c0_i32_48 : BitVec 32 := 0#32
  let v98 : BitVec 1 := Scalar.cmpi .eq c4_i32_47 c0_i32_48
  let c1_i32_49 : BitVec 32 := 1#32
  let v99 : BitVec 32 := Scalar.select v98 c1_i32_49 c4_i32_47
  let v100 : BitVec 32 := Scalar.remsi v97 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let c0_i32_54 : BitVec 32 := 0#32
  let v109 : BitVec 1 := Scalar.cmpi .sgt v107 c0_i32_54
  let v110 : BitVec 32 := Scalar.extui v109
  let c0_i32_55 : BitVec 32 := 0#32
  let v111 : BitVec 1 := Scalar.cmpi .slt v107 c0_i32_55
  let v112 : BitVec 32 := Scalar.extui v111
  let v113 : BitVec 32 := Scalar.subi v110 v112
  let c2_i32_53 : BitVec 32 := 2#32
  let c0_i32_56 : BitVec 32 := 0#32
  let v114 : BitVec 1 := Scalar.cmpi .sgt c2_i32_53 c0_i32_56
  let v115 : BitVec 32 := Scalar.extui v114
  let c0_i32_57 : BitVec 32 := 0#32
  let v116 : BitVec 1 := Scalar.cmpi .slt c2_i32_53 c0_i32_57
  let v117 : BitVec 32 := Scalar.extui v116
  let v118 : BitVec 32 := Scalar.subi v115 v117
  let v119 : BitVec 1 := Scalar.cmpi .ne v113 v118
  let v120 : BitVec 32 := Scalar.remsi v107 c2_i32_53
  let c0_i32_58 : BitVec 32 := 0#32
  let v121 : BitVec 1 := Scalar.cmpi .ne v120 c0_i32_58
  let v122 : BitVec 1 := Scalar.andi v119 v121
  let v108 : BitVec 32 := Scalar.divsi v107 c2_i32_53
  let c1_i32_59 : BitVec 32 := 1#32
  let v123 : BitVec 32 := Scalar.subi v108 c1_i32_59
  let v124 : BitVec 32 := Scalar.select v122 v123 v108
  let c2_i32_735 : BitVec 32 := 2#32
  let v1126 : BitVec 32 := Scalar.muli v124 c2_i32_735
  let v1127 : BitVec 32 := Scalar.addi v1125 v1126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_736 : BitVec 32 := 1#32
  let v1128 : BitVec 32 := Scalar.muli v8 c1_i32_736
  let v1129 : BitVec 32 := Scalar.addi v1127 v1128
  v1129.toNat
def k0_dev17 (d0 : Dev nD) : Nat :=
  let c0_i32_742 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_4 : BitVec 32 := 1#32
  let v13 : BitVec 32 := Scalar.subi v12 c1_i32_4
  let c4_i32_5 : BitVec 32 := 4#32
  let c0_i32_6 : BitVec 32 := 0#32
  let v14 : BitVec 1 := Scalar.cmpi .eq c4_i32_5 c0_i32_6
  let c1_i32_7 : BitVec 32 := 1#32
  let v15 : BitVec 32 := Scalar.select v14 c1_i32_7 c4_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_741 : BitVec 32 := 4#32
  let v1136 : BitVec 32 := Scalar.muli v40 c4_i32_741
  let v1137 : BitVec 32 := Scalar.addi c0_i32_742 v1136
  let c1_i32_18 : BitVec 32 := 1#32
  let v41 : BitVec 32 := Scalar.addi v23 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c0_i32_26 : BitVec 32 := 0#32
  let v53 : BitVec 1 := Scalar.cmpi .sgt v51 c0_i32_26
  let v54 : BitVec 32 := Scalar.extui v53
  let c0_i32_27 : BitVec 32 := 0#32
  let v55 : BitVec 1 := Scalar.cmpi .slt v51 c0_i32_27
  let v56 : BitVec 32 := Scalar.extui v55
  let v57 : BitVec 32 := Scalar.subi v54 v56
  let c2_i32_25 : BitVec 32 := 2#32
  let c0_i32_28 : BitVec 32 := 0#32
  let v58 : BitVec 1 := Scalar.cmpi .sgt c2_i32_25 c0_i32_28
  let v59 : BitVec 32 := Scalar.extui v58
  let c0_i32_29 : BitVec 32 := 0#32
  let v60 : BitVec 1 := Scalar.cmpi .slt c2_i32_25 c0_i32_29
  let v61 : BitVec 32 := Scalar.extui v60
  let v62 : BitVec 32 := Scalar.subi v59 v61
  let v63 : BitVec 1 := Scalar.cmpi .ne v57 v62
  let v64 : BitVec 32 := Scalar.remsi v51 c2_i32_25
  let c0_i32_30 : BitVec 32 := 0#32
  let v65 : BitVec 1 := Scalar.cmpi .ne v64 c0_i32_30
  let v66 : BitVec 1 := Scalar.andi v63 v65
  let v52 : BitVec 32 := Scalar.divsi v51 c2_i32_25
  let c1_i32_31 : BitVec 32 := 1#32
  let v67 : BitVec 32 := Scalar.subi v52 c1_i32_31
  let v68 : BitVec 32 := Scalar.select v66 v67 v52
  let c2_i32_743 : BitVec 32 := 2#32
  let v1138 : BitVec 32 := Scalar.muli v68 c2_i32_743
  let v1139 : BitVec 32 := Scalar.addi v1137 v1138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_744 : BitVec 32 := 1#32
  let v1140 : BitVec 32 := Scalar.muli v8 c1_i32_744
  let v1141 : BitVec 32 := Scalar.addi v1139 v1140
  v1141.toNat
def k0_off6 (d0 : Dev nD) (c0_i32_427 : BitVec 32) : Fin 2 → Nat :=
  let c256_i32_426 : BitVec 32 := 256#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_418 : BitVec 32 := 1#32
  let v641 : BitVec 32 := Scalar.subi v12 c1_i32_418
  let c4_i32_419 : BitVec 32 := 4#32
  let c0_i32_420 : BitVec 32 := 0#32
  let v642 : BitVec 1 := Scalar.cmpi .eq c4_i32_419 c0_i32_420
  let c1_i32_421 : BitVec 32 := 1#32
  let v643 : BitVec 32 := Scalar.select v642 c1_i32_421 c4_i32_419
  let v644 : BitVec 32 := Scalar.remsi v641 v643
  let c0_i32_423 : BitVec 32 := 0#32
  let v646 : BitVec 1 := Scalar.cmpi .slt v644 c0_i32_423
  let c0_i32_424 : BitVec 32 := 0#32
  let v647 : BitVec 1 := Scalar.cmpi .slt v643 c0_i32_424
  let v648 : BitVec 1 := Scalar.xori v646 v647
  let c0_i32_422 : BitVec 32 := 0#32
  let v645 : BitVec 1 := Scalar.cmpi .ne v644 c0_i32_422
  let v649 : BitVec 1 := Scalar.andi v648 v645
  let v650 : BitVec 32 := Scalar.addi v644 v643
  let v651 : BitVec 32 := Scalar.select v649 v650 v644
  let c448_i32_425 : BitVec 32 := 448#32
  let v652 : BitVec 32 := Scalar.muli v651 c448_i32_425
  let v653 : BitVec 32 := Scalar.addi c256_i32_426 v652
  let v654 : BitVec 32 := Scalar.addi v653 c0_i32_427
  let c0_i32_772 : BitVec 32 := 0#32
  ![v654.toNat, 0]
def k0_off7 (d0 : Dev nD) (c0_i32_783 : BitVec 32) : Fin 2 → Nat :=
  let c256_i32_782 : BitVec 32 := 256#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_774 : BitVec 32 := 1#32
  let v1199 : BitVec 32 := Scalar.subi v12 c1_i32_774
  let c4_i32_775 : BitVec 32 := 4#32
  let c0_i32_776 : BitVec 32 := 0#32
  let v1200 : BitVec 1 := Scalar.cmpi .eq c4_i32_775 c0_i32_776
  let c1_i32_777 : BitVec 32 := 1#32
  let v1201 : BitVec 32 := Scalar.select v1200 c1_i32_777 c4_i32_775
  let v1202 : BitVec 32 := Scalar.remsi v1199 v1201
  let c0_i32_779 : BitVec 32 := 0#32
  let v1204 : BitVec 1 := Scalar.cmpi .slt v1202 c0_i32_779
  let c0_i32_780 : BitVec 32 := 0#32
  let v1205 : BitVec 1 := Scalar.cmpi .slt v1201 c0_i32_780
  let v1206 : BitVec 1 := Scalar.xori v1204 v1205
  let c0_i32_778 : BitVec 32 := 0#32
  let v1203 : BitVec 1 := Scalar.cmpi .ne v1202 c0_i32_778
  let v1207 : BitVec 1 := Scalar.andi v1206 v1203
  let v1208 : BitVec 32 := Scalar.addi v1202 v1201
  let v1209 : BitVec 32 := Scalar.select v1207 v1208 v1202
  let c448_i32_781 : BitVec 32 := 448#32
  let v1210 : BitVec 32 := Scalar.muli v1209 c448_i32_781
  let v1211 : BitVec 32 := Scalar.addi c256_i32_782 v1210
  let v1212 : BitVec 32 := Scalar.addi v1211 c0_i32_783
  let v1213 : Index := Scalar.indexCast v1212
  let c0_784 : Index := 0#32
  ![v1213.toNat, 0]
def k0_off8 (d0 : Dev nD) (c1_i32_458 : BitVec 32) (c0_i32_467 : BitVec 32) : Fin 2 → Nat :=
  let c256_i32_466 : BitVec 32 := 256#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let v697 : BitVec 32 := Scalar.addi v12 c1_i32_458
  let c4_i32_459 : BitVec 32 := 4#32
  let c0_i32_460 : BitVec 32 := 0#32
  let v698 : BitVec 1 := Scalar.cmpi .eq c4_i32_459 c0_i32_460
  let c1_i32_461 : BitVec 32 := 1#32
  let v699 : BitVec 32 := Scalar.select v698 c1_i32_461 c4_i32_459
  let v700 : BitVec 32 := Scalar.remsi v697 v699
  let c0_i32_463 : BitVec 32 := 0#32
  let v702 : BitVec 1 := Scalar.cmpi .slt v700 c0_i32_463
  let c0_i32_464 : BitVec 32 := 0#32
  let v703 : BitVec 1 := Scalar.cmpi .slt v699 c0_i32_464
  let v704 : BitVec 1 := Scalar.xori v702 v703
  let c0_i32_462 : BitVec 32 := 0#32
  let v701 : BitVec 1 := Scalar.cmpi .ne v700 c0_i32_462
  let v705 : BitVec 1 := Scalar.andi v704 v701
  let v706 : BitVec 32 := Scalar.addi v700 v699
  let v707 : BitVec 32 := Scalar.select v705 v706 v700
  let c448_i32_465 : BitVec 32 := 448#32
  let v708 : BitVec 32 := Scalar.muli v707 c448_i32_465
  let v709 : BitVec 32 := Scalar.addi c256_i32_466 v708
  let v710 : BitVec 32 := Scalar.addi v709 c0_i32_467
  let c0_i32_800 : BitVec 32 := 0#32
  ![v710.toNat, 0]
def k0_dev18 (d0 : Dev nD) : Nat :=
  let c0_i32_805 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_4 : BitVec 32 := 1#32
  let v13 : BitVec 32 := Scalar.subi v12 c1_i32_4
  let c4_i32_5 : BitVec 32 := 4#32
  let c0_i32_6 : BitVec 32 := 0#32
  let v14 : BitVec 1 := Scalar.cmpi .eq c4_i32_5 c0_i32_6
  let c1_i32_7 : BitVec 32 := 1#32
  let v15 : BitVec 32 := Scalar.select v14 c1_i32_7 c4_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_804 : BitVec 32 := 4#32
  let v1251 : BitVec 32 := Scalar.muli v40 c4_i32_804
  let v1252 : BitVec 32 := Scalar.addi c0_i32_805 v1251
  let c1_i32_18 : BitVec 32 := 1#32
  let v41 : BitVec 32 := Scalar.addi v23 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c0_i32_26 : BitVec 32 := 0#32
  let v53 : BitVec 1 := Scalar.cmpi .sgt v51 c0_i32_26
  let v54 : BitVec 32 := Scalar.extui v53
  let c0_i32_27 : BitVec 32 := 0#32
  let v55 : BitVec 1 := Scalar.cmpi .slt v51 c0_i32_27
  let v56 : BitVec 32 := Scalar.extui v55
  let v57 : BitVec 32 := Scalar.subi v54 v56
  let c2_i32_25 : BitVec 32 := 2#32
  let c0_i32_28 : BitVec 32 := 0#32
  let v58 : BitVec 1 := Scalar.cmpi .sgt c2_i32_25 c0_i32_28
  let v59 : BitVec 32 := Scalar.extui v58
  let c0_i32_29 : BitVec 32 := 0#32
  let v60 : BitVec 1 := Scalar.cmpi .slt c2_i32_25 c0_i32_29
  let v61 : BitVec 32 := Scalar.extui v60
  let v62 : BitVec 32 := Scalar.subi v59 v61
  let v63 : BitVec 1 := Scalar.cmpi .ne v57 v62
  let v64 : BitVec 32 := Scalar.remsi v51 c2_i32_25
  let c0_i32_30 : BitVec 32 := 0#32
  let v65 : BitVec 1 := Scalar.cmpi .ne v64 c0_i32_30
  let v66 : BitVec 1 := Scalar.andi v63 v65
  let v52 : BitVec 32 := Scalar.divsi v51 c2_i32_25
  let c1_i32_31 : BitVec 32 := 1#32
  let v67 : BitVec 32 := Scalar.subi v52 c1_i32_31
  let v68 : BitVec 32 := Scalar.select v66 v67 v52
  let c2_i32_806 : BitVec 32 := 2#32
  let v1253 : BitVec 32 := Scalar.muli v68 c2_i32_806
  let v1254 : BitVec 32 := Scalar.addi v1252 v1253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_807 : BitVec 32 := 1#32
  let v1255 : BitVec 32 := Scalar.muli v8 c1_i32_807
  let v1256 : BitVec 32 := Scalar.addi v1254 v1255
  v1256.toNat
def k0_off9 (d0 : Dev nD) (c1_i32_810 : BitVec 32) (c0_i32_819 : BitVec 32) : Fin 2 → Nat :=
  let c256_i32_818 : BitVec 32 := 256#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let v1263 : BitVec 32 := Scalar.addi v12 c1_i32_810
  let c4_i32_811 : BitVec 32 := 4#32
  let c0_i32_812 : BitVec 32 := 0#32
  let v1264 : BitVec 1 := Scalar.cmpi .eq c4_i32_811 c0_i32_812
  let c1_i32_813 : BitVec 32 := 1#32
  let v1265 : BitVec 32 := Scalar.select v1264 c1_i32_813 c4_i32_811
  let v1266 : BitVec 32 := Scalar.remsi v1263 v1265
  let c0_i32_815 : BitVec 32 := 0#32
  let v1268 : BitVec 1 := Scalar.cmpi .slt v1266 c0_i32_815
  let c0_i32_816 : BitVec 32 := 0#32
  let v1269 : BitVec 1 := Scalar.cmpi .slt v1265 c0_i32_816
  let v1270 : BitVec 1 := Scalar.xori v1268 v1269
  let c0_i32_814 : BitVec 32 := 0#32
  let v1267 : BitVec 1 := Scalar.cmpi .ne v1266 c0_i32_814
  let v1271 : BitVec 1 := Scalar.andi v1270 v1267
  let v1272 : BitVec 32 := Scalar.addi v1266 v1265
  let v1273 : BitVec 32 := Scalar.select v1271 v1272 v1266
  let c448_i32_817 : BitVec 32 := 448#32
  let v1274 : BitVec 32 := Scalar.muli v1273 c448_i32_817
  let v1275 : BitVec 32 := Scalar.addi c256_i32_818 v1274
  let v1276 : BitVec 32 := Scalar.addi v1275 c0_i32_819
  let v1277 : Index := Scalar.indexCast v1276
  let c0_820 : Index := 0#32
  ![v1277.toNat, 0]
def k0_dev19 (d0 : Dev nD) : Nat :=
  let c0_i32_867 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_4 : BitVec 32 := 1#32
  let v13 : BitVec 32 := Scalar.subi v12 c1_i32_4
  let c4_i32_5 : BitVec 32 := 4#32
  let c0_i32_6 : BitVec 32 := 0#32
  let v14 : BitVec 1 := Scalar.cmpi .eq c4_i32_5 c0_i32_6
  let c1_i32_7 : BitVec 32 := 1#32
  let v15 : BitVec 32 := Scalar.select v14 c1_i32_7 c4_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_866 : BitVec 32 := 4#32
  let v1367 : BitVec 32 := Scalar.muli v40 c4_i32_866
  let v1368 : BitVec 32 := Scalar.addi c0_i32_867 v1367
  let c1_i32_18 : BitVec 32 := 1#32
  let v41 : BitVec 32 := Scalar.addi v23 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c0_i32_26 : BitVec 32 := 0#32
  let v53 : BitVec 1 := Scalar.cmpi .sgt v51 c0_i32_26
  let v54 : BitVec 32 := Scalar.extui v53
  let c0_i32_27 : BitVec 32 := 0#32
  let v55 : BitVec 1 := Scalar.cmpi .slt v51 c0_i32_27
  let v56 : BitVec 32 := Scalar.extui v55
  let v57 : BitVec 32 := Scalar.subi v54 v56
  let c2_i32_25 : BitVec 32 := 2#32
  let c0_i32_28 : BitVec 32 := 0#32
  let v58 : BitVec 1 := Scalar.cmpi .sgt c2_i32_25 c0_i32_28
  let v59 : BitVec 32 := Scalar.extui v58
  let c0_i32_29 : BitVec 32 := 0#32
  let v60 : BitVec 1 := Scalar.cmpi .slt c2_i32_25 c0_i32_29
  let v61 : BitVec 32 := Scalar.extui v60
  let v62 : BitVec 32 := Scalar.subi v59 v61
  let v63 : BitVec 1 := Scalar.cmpi .ne v57 v62
  let v64 : BitVec 32 := Scalar.remsi v51 c2_i32_25
  let c0_i32_30 : BitVec 32 := 0#32
  let v65 : BitVec 1 := Scalar.cmpi .ne v64 c0_i32_30
  let v66 : BitVec 1 := Scalar.andi v63 v65
  let v52 : BitVec 32 := Scalar.divsi v51 c2_i32_25
  let c1_i32_31 : BitVec 32 := 1#32
  let v67 : BitVec 32 := Scalar.subi v52 c1_i32_31
  let v68 : BitVec 32 := Scalar.select v66 v67 v52
  let c2_i32_868 : BitVec 32 := 2#32
  let v1369 : BitVec 32 := Scalar.muli v68 c2_i32_868
  let v1370 : BitVec 32 := Scalar.addi v1368 v1369
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_869 : BitVec 32 := 1#32
  let v1371 : BitVec 32 := Scalar.muli v8 c1_i32_869
  let v1372 : BitVec 32 := Scalar.addi v1370 v1371
  v1372.toNat
def k0_dev20 (d0 : Dev nD) : Nat :=
  let c0_i32_902 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_32 : BitVec 32 := 1#32
  let v69 : BitVec 32 := Scalar.addi v12 c1_i32_32
  let c4_i32_33 : BitVec 32 := 4#32
  let c0_i32_34 : BitVec 32 := 0#32
  let v70 : BitVec 1 := Scalar.cmpi .eq c4_i32_33 c0_i32_34
  let c1_i32_35 : BitVec 32 := 1#32
  let v71 : BitVec 32 := Scalar.select v70 c1_i32_35 c4_i32_33
  let v72 : BitVec 32 := Scalar.remsi v69 v71
  let c0_i32_37 : BitVec 32 := 0#32
  let v74 : BitVec 1 := Scalar.cmpi .slt v72 c0_i32_37
  let c0_i32_38 : BitVec 32 := 0#32
  let v75 : BitVec 1 := Scalar.cmpi .slt v71 c0_i32_38
  let v76 : BitVec 1 := Scalar.xori v74 v75
  let c0_i32_36 : BitVec 32 := 0#32
  let v73 : BitVec 1 := Scalar.cmpi .ne v72 c0_i32_36
  let v77 : BitVec 1 := Scalar.andi v76 v73
  let v78 : BitVec 32 := Scalar.addi v72 v71
  let v79 : BitVec 32 := Scalar.select v77 v78 v72
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c2_i32_39 : BitVec 32 := 2#32
  let c0_i32_42 : BitVec 32 := 0#32
  let v86 : BitVec 1 := Scalar.cmpi .sgt c2_i32_39 c0_i32_42
  let v87 : BitVec 32 := Scalar.extui v86
  let c0_i32_43 : BitVec 32 := 0#32
  let v88 : BitVec 1 := Scalar.cmpi .slt c2_i32_39 c0_i32_43
  let v89 : BitVec 32 := Scalar.extui v88
  let v90 : BitVec 32 := Scalar.subi v87 v89
  let v91 : BitVec 1 := Scalar.cmpi .ne v85 v90
  let v92 : BitVec 32 := Scalar.remsi v79 c2_i32_39
  let c0_i32_44 : BitVec 32 := 0#32
  let v93 : BitVec 1 := Scalar.cmpi .ne v92 c0_i32_44
  let v94 : BitVec 1 := Scalar.andi v91 v93
  let v80 : BitVec 32 := Scalar.divsi v79 c2_i32_39
  let c1_i32_45 : BitVec 32 := 1#32
  let v95 : BitVec 32 := Scalar.subi v80 c1_i32_45
  let v96 : BitVec 32 := Scalar.select v94 v95 v80
  let c4_i32_901 : BitVec 32 := 4#32
  let v1431 : BitVec 32 := Scalar.muli v96 c4_i32_901
  let v1432 : BitVec 32 := Scalar.addi c0_i32_902 v1431
  let c1_i32_46 : BitVec 32 := 1#32
  let v97 : BitVec 32 := Scalar.addi v79 c1_i32_46
  let c4_i32_47 : BitVec 32 := 4#32
  let c0_i32_48 : BitVec 32 := 0#32
  let v98 : BitVec 1 := Scalar.cmpi .eq c4_i32_47 c0_i32_48
  let c1_i32_49 : BitVec 32 := 1#32
  let v99 : BitVec 32 := Scalar.select v98 c1_i32_49 c4_i32_47
  let v100 : BitVec 32 := Scalar.remsi v97 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let c0_i32_54 : BitVec 32 := 0#32
  let v109 : BitVec 1 := Scalar.cmpi .sgt v107 c0_i32_54
  let v110 : BitVec 32 := Scalar.extui v109
  let c0_i32_55 : BitVec 32 := 0#32
  let v111 : BitVec 1 := Scalar.cmpi .slt v107 c0_i32_55
  let v112 : BitVec 32 := Scalar.extui v111
  let v113 : BitVec 32 := Scalar.subi v110 v112
  let c2_i32_53 : BitVec 32 := 2#32
  let c0_i32_56 : BitVec 32 := 0#32
  let v114 : BitVec 1 := Scalar.cmpi .sgt c2_i32_53 c0_i32_56
  let v115 : BitVec 32 := Scalar.extui v114
  let c0_i32_57 : BitVec 32 := 0#32
  let v116 : BitVec 1 := Scalar.cmpi .slt c2_i32_53 c0_i32_57
  let v117 : BitVec 32 := Scalar.extui v116
  let v118 : BitVec 32 := Scalar.subi v115 v117
  let v119 : BitVec 1 := Scalar.cmpi .ne v113 v118
  let v120 : BitVec 32 := Scalar.remsi v107 c2_i32_53
  let c0_i32_58 : BitVec 32 := 0#32
  let v121 : BitVec 1 := Scalar.cmpi .ne v120 c0_i32_58
  let v122 : BitVec 1 := Scalar.andi v119 v121
  let v108 : BitVec 32 := Scalar.divsi v107 c2_i32_53
  let c1_i32_59 : BitVec 32 := 1#32
  let v123 : BitVec 32 := Scalar.subi v108 c1_i32_59
  let v124 : BitVec 32 := Scalar.select v122 v123 v108
  let c2_i32_903 : BitVec 32 := 2#32
  let v1433 : BitVec 32 := Scalar.muli v124 c2_i32_903
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_904 : BitVec 32 := 1#32
  let v1435 : BitVec 32 := Scalar.muli v8 c1_i32_904
  let v1436 : BitVec 32 := Scalar.addi v1434 v1435
  v1436.toNat
def k0_dev21 (d0 : Dev nD) : Nat :=
  let c0_i32_964 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c3_i32 : BitVec 32 := 3#32
  let v11 : BitVec 32 := Scalar.subi c3_i32 v5
  let v12 : BitVec 32 := Scalar.select v10 v5 v11
  let c1_i32_32 : BitVec 32 := 1#32
  let v69 : BitVec 32 := Scalar.addi v12 c1_i32_32
  let c4_i32_33 : BitVec 32 := 4#32
  let c0_i32_34 : BitVec 32 := 0#32
  let v70 : BitVec 1 := Scalar.cmpi .eq c4_i32_33 c0_i32_34
  let c1_i32_35 : BitVec 32 := 1#32
  let v71 : BitVec 32 := Scalar.select v70 c1_i32_35 c4_i32_33
  let v72 : BitVec 32 := Scalar.remsi v69 v71
  let c0_i32_37 : BitVec 32 := 0#32
  let v74 : BitVec 1 := Scalar.cmpi .slt v72 c0_i32_37
  let c0_i32_38 : BitVec 32 := 0#32
  let v75 : BitVec 1 := Scalar.cmpi .slt v71 c0_i32_38
  let v76 : BitVec 1 := Scalar.xori v74 v75
  let c0_i32_36 : BitVec 32 := 0#32
  let v73 : BitVec 1 := Scalar.cmpi .ne v72 c0_i32_36
  let v77 : BitVec 1 := Scalar.andi v76 v73
  let v78 : BitVec 32 := Scalar.addi v72 v71
  let v79 : BitVec 32 := Scalar.select v77 v78 v72
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c2_i32_39 : BitVec 32 := 2#32
  let c0_i32_42 : BitVec 32 := 0#32
  let v86 : BitVec 1 := Scalar.cmpi .sgt c2_i32_39 c0_i32_42
  let v87 : BitVec 32 := Scalar.extui v86
  let c0_i32_43 : BitVec 32 := 0#32
  let v88 : BitVec 1 := Scalar.cmpi .slt c2_i32_39 c0_i32_43
  let v89 : BitVec 32 := Scalar.extui v88
  let v90 : BitVec 32 := Scalar.subi v87 v89
  let v91 : BitVec 1 := Scalar.cmpi .ne v85 v90
  let v92 : BitVec 32 := Scalar.remsi v79 c2_i32_39
  let c0_i32_44 : BitVec 32 := 0#32
  let v93 : BitVec 1 := Scalar.cmpi .ne v92 c0_i32_44
  let v94 : BitVec 1 := Scalar.andi v91 v93
  let v80 : BitVec 32 := Scalar.divsi v79 c2_i32_39
  let c1_i32_45 : BitVec 32 := 1#32
  let v95 : BitVec 32 := Scalar.subi v80 c1_i32_45
  let v96 : BitVec 32 := Scalar.select v94 v95 v80
  let c4_i32_963 : BitVec 32 := 4#32
  let v1547 : BitVec 32 := Scalar.muli v96 c4_i32_963
  let v1548 : BitVec 32 := Scalar.addi c0_i32_964 v1547
  let c1_i32_46 : BitVec 32 := 1#32
  let v97 : BitVec 32 := Scalar.addi v79 c1_i32_46
  let c4_i32_47 : BitVec 32 := 4#32
  let c0_i32_48 : BitVec 32 := 0#32
  let v98 : BitVec 1 := Scalar.cmpi .eq c4_i32_47 c0_i32_48
  let c1_i32_49 : BitVec 32 := 1#32
  let v99 : BitVec 32 := Scalar.select v98 c1_i32_49 c4_i32_47
  let v100 : BitVec 32 := Scalar.remsi v97 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let c0_i32_54 : BitVec 32 := 0#32
  let v109 : BitVec 1 := Scalar.cmpi .sgt v107 c0_i32_54
  let v110 : BitVec 32 := Scalar.extui v109
  let c0_i32_55 : BitVec 32 := 0#32
  let v111 : BitVec 1 := Scalar.cmpi .slt v107 c0_i32_55
  let v112 : BitVec 32 := Scalar.extui v111
  let v113 : BitVec 32 := Scalar.subi v110 v112
  let c2_i32_53 : BitVec 32 := 2#32
  let c0_i32_56 : BitVec 32 := 0#32
  let v114 : BitVec 1 := Scalar.cmpi .sgt c2_i32_53 c0_i32_56
  let v115 : BitVec 32 := Scalar.extui v114
  let c0_i32_57 : BitVec 32 := 0#32
  let v116 : BitVec 1 := Scalar.cmpi .slt c2_i32_53 c0_i32_57
  let v117 : BitVec 32 := Scalar.extui v116
  let v118 : BitVec 32 := Scalar.subi v115 v117
  let v119 : BitVec 1 := Scalar.cmpi .ne v113 v118
  let v120 : BitVec 32 := Scalar.remsi v107 c2_i32_53
  let c0_i32_58 : BitVec 32 := 0#32
  let v121 : BitVec 1 := Scalar.cmpi .ne v120 c0_i32_58
  let v122 : BitVec 1 := Scalar.andi v119 v121
  let v108 : BitVec 32 := Scalar.divsi v107 c2_i32_53
  let c1_i32_59 : BitVec 32 := 1#32
  let v123 : BitVec 32 := Scalar.subi v108 c1_i32_59
  let v124 : BitVec 32 := Scalar.select v122 v123 v108
  let c2_i32_965 : BitVec 32 := 2#32
  let v1549 : BitVec 32 := Scalar.muli v124 c2_i32_965
  let v1550 : BitVec 32 := Scalar.addi v1548 v1549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_966 : BitVec 32 := 1#32
  let v1551 : BitVec 32 := Scalar.muli v8 c1_i32_966
  let v1552 : BitVec 32 := Scalar.addi v1550 v1551
  v1552.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/- The kernel's body as a list of commands.

   Each of the eight devices receives its half of the sum in eighteen pieces. A piece is named by how it
   comes: `zq`, `zd` straight from the device with the other `z`; `dR`, `dL` from the left and from the right
   neighbour on the ring of four; `fR`, `fL` handed on once more around the ring. The same names serve for the
   pieces a device sends. The tables below read, per piece, the offsets, devices and semaphores that the
   body names, and `body_eq` says that the body is the list of commands `cmds` run in order. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Net

open Idealize.ShloMosaic Idealize.ShloMosaic.TcCoe
open Idealize.SL Idealize.SL.Sem
open Cert.KernelIdeal Cert.KernelIdeal.Gen

variable {F : FTy → Type} [FloatOps F]

/-! ## The pieces -/

/-- The pieces of a device's half, by the way they travel. -/
inductive Ck
  | zq (r : Fin 4) | zd (r : Fin 2) | dR (r : Fin 4) | dL (r : Fin 4) | fR (r : Fin 2) | fL (r : Fin 2)
deriving DecidableEq

namespace Ck

/-- All eighteen of them. -/
def all : List Ck :=
  [zq 0, zq 1, zq 2, zq 3, zd 0, zd 1, dR 0, dR 1, dR 2, dR 3, dL 0, dL 1, dL 2, dL 3, fR 0, fR 1, fL 0, fL 1]

/-- There are finitely many pieces. -/
instance : Fintype Ck := ⟨⟨all, by decide⟩, by rintro (r | r | r | r | r | r) <;> revert r <;> decide⟩

end Ck

/-- `n` rows of the half. -/
abbrev SC (n : Nat) : Shape := ⟨2, ![n, 2048]⟩
/-- `n` rows of a device's block of the operand. -/
abbrev SC1 (n : Nat) : Shape := ⟨3, ![1, n, 2048]⟩

/-- How many rows a piece has. -/
@[reducible] def rows : Ck → Nat
  | .zd _ => 128
  | .zq _ | .dR _ | .dL _ | .fR _ | .fL _ => 112

/-- Where a piece lands on device `d`, as the waits and the copies out name it. -/
def rowOff : Ck → Dev nD → Fin 2 → Nat
  | .zq r, d => k0_off2 d (BitVec.ofNat 32 (112 * r.val))
  | .zd r, _ => ![128 * r.val, 0]
  | .dR r, d => k0_off6 d (BitVec.ofNat 32 (112 * r.val))
  | .dL r, d => k0_off8 d (BitVec.ofNat 32 (1 + (0 : Fin 2).val)) (BitVec.ofNat 32 (112 * r.val))
  | .fR r, d => k0_off8 d (BitVec.ofNat 32 (1 + (1 : Fin 2).val)) (BitVec.ofNat 32 (112 * (r.val + 2)))
  | .fL r, d => k0_off8 d (BitVec.ofNat 32 (1 + (1 : Fin 2).val)) (BitVec.ofNat 32 (112 * r.val))

/-- The same place, as the loads and the stores name it. -/
def ldOff : Ck → Dev nD → Fin 2 → Nat
  | .zq r, d => k0_off5 d (BitVec.ofNat 32 (112 * r.val))
  | .zd r, _ => ![128 * r.val, 0]
  | .dR r, d => k0_off7 d (BitVec.ofNat 32 (112 * r.val))
  | .dL r, d => k0_off9 d (BitVec.ofNat 32 (1 + (0 : Fin 2).val)) (BitVec.ofNat 32 (112 * r.val))
  | .fR r, d => k0_off9 d (BitVec.ofNat 32 (1 + (1 : Fin 2).val)) (BitVec.ofNat 32 (112 * (r.val + 2)))
  | .fL r, d => k0_off9 d (BitVec.ofNat 32 (1 + (1 : Fin 2).val)) (BitVec.ofNat 32 (112 * r.val))

/-- Where device `d` writes the piece it sends, on the receiver; and, for a piece handed on, where it reads it. -/
def sOff : Ck → Dev nD → Fin 2 → Nat
  | .zq r, d => k0_off2 d (BitVec.ofNat 32 (112 * r.val))
  | .zd r, _ => ![128 * r.val, 0]
  | .dR r, d => k0_off2 d (BitVec.ofNat 32 (112 * r.val))
  | .dL r, d => k0_off2 d (BitVec.ofNat 32 (112 * r.val))
  | .fR r, d => k0_off6 d (BitVec.ofNat 32 (112 * (r.val + 2)))
  | .fL r, d => k0_off8 d (BitVec.ofNat 32 (1 + (0 : Fin 2).val)) (BitVec.ofNat 32 (112 * r.val))

/-- Where device `d` reads a piece of its own operand that it sends. -/
def aOff : Ck → Dev nD → Fin 3 → Nat
  | .zq r, d => k0_off3 d (BitVec.ofNat 32 (112 * r.val))
  | .zd r, d => k0_off4 d (BitVec.ofNat 32 (128 * r.val))
  | .dR _, _ | .dL _, _ | .fR _, _ | .fL _, _ => ![0, 0, 0]

/-- A piece lands inside the buffer. -/
theorem rowOff_inb (k : Ck) (d : Dev nD) : ∀ a, rowOff k d a + (SC (rows k)).size a ≤ S2048x2048.size a := by
  cases k with
  | zq r => exact k0_off2_inb d r
  | zd r => exact (by decide : ∀ (r a : Fin 2), (![128 * r.val, 0] : Fin 2 → Nat) a + (SC 128).size a ≤ S2048x2048.size a) r
  | dR r => exact k0_off6_inb d r
  | dL r => exact k0_off8_inb d 0 r
  | fR r => exact k0_off8_inb d 1 ⟨r.val + 2, by omega⟩
  | fL r => exact k0_off8_inb d 1 ⟨r.val, by omega⟩

/-- A piece is loaded and stored inside the buffer. -/
theorem ldOff_inb (k : Ck) (d : Dev nD) : ∀ a, ldOff k d a + (SC (rows k)).size a ≤ S2048x2048.size a := by
  cases k with
  | zq r => exact k0_off5_inb d r
  | zd r => exact (by decide : ∀ (r a : Fin 2), (![128 * r.val, 0] : Fin 2 → Nat) a + (SC 128).size a ≤ S2048x2048.size a) r
  | dR r => exact k0_off7_inb d r
  | dL r => exact k0_off9_inb d 0 r
  | fR r => exact k0_off9_inb d 1 ⟨r.val + 2, by omega⟩
  | fL r => exact k0_off9_inb d 1 ⟨r.val, by omega⟩

/-- A piece is sent inside the buffer. -/
theorem sOff_inb (k : Ck) (d : Dev nD) : ∀ a, sOff k d a + (SC (rows k)).size a ≤ S2048x2048.size a := by
  cases k with
  | zq r => exact k0_off2_inb d r
  | zd r => exact (by decide : ∀ (r a : Fin 2), (![128 * r.val, 0] : Fin 2 → Nat) a + (SC 128).size a ≤ S2048x2048.size a) r
  | dR r => exact k0_off2_inb d r
  | dL r => exact k0_off2_inb d r
  | fR r => exact k0_off6_inb d ⟨r.val + 2, by omega⟩
  | fL r => exact k0_off8_inb d 0 ⟨r.val, by omega⟩

/-- A piece is read inside the operand. -/
theorem aOff_inb (k : Ck) (d : Dev nD) : ∀ a, aOff k d a + (SC1 (rows k)).size a ≤ S1x4096x2048.size a := by
  cases k with
  | zq r => exact k0_off3_inb d r
  | zd r => exact k0_off4_inb d r
  | dR r | dL r | fR r | fL r =>
    exact (by decide : ∀ a, (![0, 0, 0] : Fin 3 → Nat) a + (SC1 112).size a ≤ S1x4096x2048.size a)

/-- The unit axis of a piece of the operand drops. -/
theorem rows_squeezes (k : Ck) : (SC1 (rows k)).Squeezes (SC (rows k)) := by
  cases k with
  | zd r => exact squeezes_S1x128x2048_S128x2048
  | zq r | dR r | dL r | fR r | fL r => exact squeezes_S1x112x2048_S112x2048

/-- A piece is not empty. -/
theorem rows_pos (k : Ck) : 0 < (SC (rows k)).numel := by
  cases k with
  | zd r => exact h_S128x2048
  | zq r | dR r | dL r | fR r | fL r => exact h_S112x2048

/-! ## The body's views -/

/-- The operand, the scale's staging buffer and the result. -/
abbrev A0 : Memref sig .tc .hbm S1x4096x2048 .f32 := Memref.whole main_arg0
/-- The scale. -/
abbrev Ga : Memref sig .tc .vmem S2048 .f32 := Memref.whole cc0_stg0_0
/-- The result. -/
abbrev Ou : Memref sig .tc .hbm S2048x2048 .f32 := Memref.whole main_v1
/-- The pieces that come, the device's own half, and the results before they are copied out. -/
abbrev Cm : Memref sig .tc .vmem S2048x2048 .f32 := Memref.whole cc0_scratch0
/-- The device's own half. -/
abbrev Lo : Memref sig .tc .vmem S2048x2048 .f32 := Memref.whole cc0_scratch1
/-- The results on their way out. -/
abbrev Sg : Memref sig .tc .vmem S2048x2048 .f32 := Memref.whole cc0_scratch2

/-- The rows of a buffer at an offset. -/
abbrev sl {sp : Space} (M : Memref sig .tc sp S2048x2048 .f32) (n : Nat) (off : Fin 2 → Nat)
    (h : ∀ a, off a + (SC n).size a ≤ S2048x2048.size a) : Memref sig .tc sp (SC n) .f32 :=
  M.slice (Rect.unit (s := S2048x2048) off (SC n).size h) (fun _ => rfl)

/-- The rows of the operand that a piece is sent from. -/
abbrev asl (k : Ck) (d : Dev nD) : Memref sig .tc .hbm (SC (rows k)) .f32 :=
  (A0.slice (Rect.unit (s := S1x4096x2048) (aOff k d) (SC1 (rows k)).size (aOff_inb k d)) (fun _ => rfl)).squeeze
    (SC (rows k)) (rows_squeezes k)

/-- The device's own half of its block of the operand. -/
abbrev half (d : Dev nD) : Memref sig .tc .hbm S2048x2048 .f32 :=
  (A0.slice (Rect.unit (s := S1x4096x2048) (k0_off1 d) S1x2048x2048.size (k0_off1_inb d)) (fun _ => rfl)).squeeze
    S2048x2048 squeezes_S1x2048x2048_S2048x2048

/-! ## The semaphores -/

/-- Element `r` of a semaphore array. -/
def el {n : Nat} (A : DmaSems sig ⟨1, ![n]⟩) (r : Nat) (h : ∀ a, (![r] : Fin 1 → Nat) a + S1.size a ≤ (⟨1, ![n]⟩ : Shape).size a) : DmaSem sig :=
  ((A.slice (Rect.unit (s := ⟨1, ![n]⟩) ![r] S1.size h)).squeeze S_ squeezes_S1_S_).sem

/-- Element `r` lies in an array of `n`. -/
theorem el_inb {n : Nat} (r : Fin n) : ∀ a, (![r.val] : Fin 1 → Nat) a + S1.size a ≤ (⟨1, ![n]⟩ : Shape).size a := by
  intro a
  fin_cases a
  show r.val + 1 ≤ n
  omega

/-- The semaphore a piece's landing is waited for on. -/
def recvSem : Ck → DmaSem sig
  | .zq r => el (n := 4) cc0_scratch4 r.val (el_inb r)
  | .zd r => el (n := 2) cc0_scratch6 r.val (el_inb r)
  | .dR r => el (n := 4) cc0_scratch9 r.val (el_inb r)
  | .dL r => el (n := 4) cc0_scratch10 r.val (el_inb r)
  | .fR r => el (n := 2) cc0_scratch13 r.val (el_inb r)
  | .fL r => el (n := 2) cc0_scratch14 r.val (el_inb r)

/-- The semaphore that says a piece sent has been read. -/
def sendSem : Ck → DmaSem sig
  | .zq r => el (n := 4) cc0_scratch3 r.val (el_inb r)
  | .zd r => el (n := 2) cc0_scratch5 r.val (el_inb r)
  | .dR r => el (n := 4) cc0_scratch8 r.val (el_inb r)
  | .dL r => el (n := 4) cc0_scratch7 r.val (el_inb r)
  | .fR r => el (n := 2) cc0_scratch12 r.val (el_inb r)
  | .fL r => el (n := 2) cc0_scratch11 r.val (el_inb r)

/-- Which of the eighteen copies out a piece's result is. -/
def outIx : Ck → Fin 18
  | .zq r => ⟨r.val, by omega⟩
  | .zd r => ⟨12 + r.val, by omega⟩
  | .dR r => ⟨4 + 2 * r.val, by omega⟩
  | .dL r => ⟨5 + 2 * r.val, by omega⟩
  | .fR r => ⟨15 + 2 * r.val, by omega⟩
  | .fL r => ⟨14 + 2 * r.val, by omega⟩

/-- The semaphore of the copy out of a piece's result. -/
def outSem (k : Ck) : DmaSem sig := el (n := 18) cc0_scratch16 (outIx k).val (el_inb _)

/-- The semaphore of the copy of the device's own half. -/
abbrev halfSem : DmaSem sig := cc0_scratch15.sem

/-- The barrier's semaphore. -/
abbrev barS : Sem sig := (SemArray.scalar (d := ![]) (sig.barrier 0 rfl)).sem

/-! ## The devices -/

/-- The device a piece is sent to. -/
def sendDev : Ck → Dev nD → Dev nD
  | .zq ⟨0, _⟩, d => ⟨k0_dev4 d, k0_dev4_lt d⟩
  | .zq ⟨1, _⟩, d => ⟨k0_dev5 d, k0_dev5_lt d⟩
  | .zq ⟨2, _⟩, d => ⟨k0_dev6 d, k0_dev6_lt d⟩
  | .zq ⟨3, _⟩, d => ⟨k0_dev7 d, k0_dev7_lt d⟩
  | .zd ⟨0, _⟩, d => ⟨k0_dev8 d, k0_dev8_lt d⟩
  | .zd ⟨1, _⟩, d => ⟨k0_dev9 d, k0_dev9_lt d⟩
  | .dR ⟨0, _⟩, d => ⟨k0_dev10 d, k0_dev10_lt d⟩
  | .dL ⟨0, _⟩, d => ⟨k0_dev11 d, k0_dev11_lt d⟩
  | .dR ⟨1, _⟩, d => ⟨k0_dev12 d, k0_dev12_lt d⟩
  | .dL ⟨1, _⟩, d => ⟨k0_dev13 d, k0_dev13_lt d⟩
  | .dR ⟨2, _⟩, d => ⟨k0_dev14 d, k0_dev14_lt d⟩
  | .dL ⟨2, _⟩, d => ⟨k0_dev15 d, k0_dev15_lt d⟩
  | .dR ⟨3, _⟩, d => ⟨k0_dev16 d, k0_dev16_lt d⟩
  | .dL ⟨3, _⟩, d => ⟨k0_dev17 d, k0_dev17_lt d⟩
  | .fL ⟨0, _⟩, d => ⟨k0_dev18 d, k0_dev18_lt d⟩
  | .fL ⟨1, _⟩, d => ⟨k0_dev19 d, k0_dev19_lt d⟩
  | .fR ⟨0, _⟩, d => ⟨k0_dev20 d, k0_dev20_lt d⟩
  | .fR ⟨1, _⟩, d => ⟨k0_dev21 d, k0_dev21_lt d⟩

/-! ## The arithmetic of a piece -/

/-- Facts of the shapes of a piece's arithmetic. -/
structure RowsFacts (n : Nat) : Prop where
  red : (SC n).Reduces [1] ⟨1, ![n]⟩
  cast1 : (⟨1, ![n]⟩ : Shape).ShapeCasts ⟨2, ![n, 1]⟩
  bc1 : (⟨2, ![n, 1]⟩ : Shape).Broadcasts (SC n)
  bcg : S1x2048.Broadcasts (SC n)
  cast : (SC n).ShapeCasts (SC n)

/-- They hold of every piece. -/
theorem rows_facts (k : Ck) : RowsFacts (rows k) := by
  cases k with
  | zd r => exact ⟨reduces_S128x2048_S128, shapeCasts_S128_S128x1, broadcasts_S128x1_S128x2048,
      broadcasts_S1x2048_S128x2048, shapeCasts_S128x2048_S128x2048⟩
  | zq r | dR r | dL r | fR r | fL r => exact ⟨reduces_S112x2048_S112, shapeCasts_S112_S112x1, broadcasts_S112x1_S112x2048,
      broadcasts_S1x2048_S112x2048, shapeCasts_S112x2048_S112x2048⟩

/-- The sum of two pieces, divided by the root of the mean of its squares along the row and scaled. -/
def norm {n : Nat} (h : RowsFacts n) (a b : Vec F (SC n) .f32) (g : Vec F S2048 .f32) : FVec F (SC n) .f32 :=
  have y : FVec F (SC n) .f32 := addf a b
  have q : FVec F ⟨1, ![n]⟩ .f32 := multiReduction .add [1] ⟨1, ![n]⟩ (mulf y y) 0x00000000#32 h.red (.inl rfl) rfl
  have w : FVec F ⟨2, ![n, 1]⟩ .f32 := divf (shapeCast ⟨2, ![n, 1]⟩ q h.cast1) (broadcast ⟨2, ![n, 1]⟩ (Scalar.ofBits .f32 0x45000000#32 : F .f32))
  have e : FVec F ⟨2, ![n, 1]⟩ .f32 := sqrt (addf w (broadcast ⟨2, ![n, 1]⟩ (Scalar.ofBits .f32 0x358637BD#32 : F .f32)))
  have z : FVec F (SC n) .f32 := divf y (broadcastTo (SC n) e h.bc1)
  have g' : FVec F S1x2048 .f32 := shapeCast S1x2048 (shapeCast S2048 g shapeCasts_S2048_S2048) shapeCasts_S2048_S1x2048
  shapeCast (SC n) (mulf z (broadcastTo (SC n) g' h.bcg)) h.cast

/-! ## The commands -/

/-- What the body does, piece by piece: wait for its own half; wait for a piece; send a piece from the operand;
    send a piece from the buffer; work a piece's result out and start copying it out; wait for a sent piece to
    have been read; wait for a result to be out. -/
inductive Cmd
  | half | recv (k : Ck) | sendA (k : Ck) | sendC (k : Ck) | comp (k : Ck) | finA (k : Ck) | finC (k : Ck) | out (k : Ck)
deriving DecidableEq

/-- The programs of the kernel. -/
abbrev P (F : FTy → Type) [FloatOps F] := Prog (TpuEff nD τ sig (Elt F) Λ₀ .tc) PUnit

/-- One command on device `d`, then the rest. -/
def step (d : Dev nD) (c : Cmd) (rest : P F) : P F :=
  match c with
  | .half => .op (.waitDma2 halfSem (half d) Lo ((View.wordExact_bits rfl).reshape _ _) (Memref.isWhole_whole cc0_scratch1).wordExact) fun _ => rest
  | .recv k => .op (.waitDma2 (recvSem k) (sl Cm (rows k) (rowOff k d) (rowOff_inb k d)) (sl Cm (rows k) (rowOff k d) (rowOff_inb k d))
      (View.wordExact_bits rfl) (View.wordExact_bits rfl)) fun _ => rest
  | .sendA k => .op (.enqueueDma (asl k d) (.remote (Dev.tc (sendDev k d)) (sl Cm (rows k) (sOff k d) (sOff_inb k d)) (.dma (sendSem k)))
      (.dma (recvSem k)) ((View.wordExact_bits rfl).reshape _ _) (View.wordExact_bits rfl) ⟨⟨rfl, Or.inl rfl⟩, trivial⟩) fun _ => rest
  | .sendC k => .op (.enqueueDma (sl Cm (rows k) (sOff k d) (sOff_inb k d))
      (.remote (Dev.tc (sendDev k d)) (sl Cm (rows k) (sOff k d) (sOff_inb k d)) (.dma (sendSem k)))
      (.dma (recvSem k)) (View.wordExact_bits rfl) (View.wordExact_bits rfl) ⟨⟨rfl, Or.inl rfl⟩, trivial⟩) fun _ => rest
  | .comp k => .op (.load Lo (Rect.unit (s := S2048x2048) (ldOff k d) (SC (rows k)).size (ldOff_inb k d)).toLoadRect (View.loadsAt_vmem (rows_pos k)))
      fun a => .op (.load Cm (Rect.unit (s := S2048x2048) (ldOff k d) (SC (rows k)).size (ldOff_inb k d)).toLoadRect (View.loadsAt_vmem (rows_pos k)))
      fun b => .op (.load Ga (Rect.unit (s := S2048) ![0] S2048.size inb_S2048_S2048_0).toLoadRect (View.loadsAt_vmem h_S2048))
      fun g => .op (.load Sg (Rect.unit (s := S2048x2048) (ldOff k d) (SC (rows k)).size (ldOff_inb k d)).toLoadRect (View.loadsAt_vmem (rows_pos k)))
      fun _ => .op (.store Sg (Rect.unit (s := S2048x2048) (ldOff k d) (SC (rows k)).size (ldOff_inb k d)) (norm (rows_facts k) a b g) Finset.univ
        (View.stores_vmem_bits_univ (rows_pos k) rfl) (.inl rfl))
      fun _ => .op (.enqueueDma (sl Sg (rows k) (rowOff k d) (rowOff_inb k d)) (.here (sl Ou (rows k) (rowOff k d) (rowOff_inb k d)))
        (.dma (outSem k)) (View.wordExact_bits rfl) (View.wordExact_bits rfl) ⟨Or.inl rfl, trivial⟩) fun _ => rest
  | .finA k => .op (.waitDma2 (sendSem k) (sl Cm (rows k) (sOff k d) (sOff_inb k d)) (asl k d)
      (View.wordExact_bits rfl) ((View.wordExact_bits rfl).reshape _ _)) fun _ => rest
  | .finC k => .op (.waitDma2 (sendSem k) (sl Cm (rows k) (sOff k d) (sOff_inb k d)) (sl Cm (rows k) (sOff k d) (sOff_inb k d))
      (View.wordExact_bits rfl) (View.wordExact_bits rfl)) fun _ => rest
  | .out k => .op (.waitDma2 (outSem k) (sl Sg (rows k) (rowOff k d) (rowOff_inb k d)) (sl Ou (rows k) (rowOff k d) (rowOff_inb k d))
      (View.wordExact_bits rfl) (View.wordExact_bits rfl)) fun _ => rest

/-- A list of commands on device `d`, in order. -/
def runL (d : Dev nD) : List Cmd → P F
  | [] => .ret ⟨⟩
  | c :: cs => step d c (runL d cs)

/-- The body's commands after the barrier. -/
def cmds : List Cmd :=
  [.sendA (.zq 0), .sendA (.zq 1), .sendA (.zq 2), .sendA (.zq 3), .sendA (.zd 0), .sendA (.zd 1), .half,
   .recv (.zq 0), .sendC (.dR 0), .sendC (.dL 0), .comp (.zq 0),
   .recv (.zq 1), .sendC (.dR 1), .sendC (.dL 1), .comp (.zq 1),
   .recv (.zq 2), .sendC (.dR 2), .sendC (.dL 2), .comp (.zq 2),
   .recv (.zq 3), .sendC (.dR 3), .sendC (.dL 3), .comp (.zq 3),
   .recv (.dR 0), .comp (.dR 0), .recv (.dL 0), .sendC (.fL 0), .comp (.dL 0),
   .recv (.dR 1), .comp (.dR 1), .recv (.dL 1), .sendC (.fL 1), .comp (.dL 1),
   .recv (.dR 2), .sendC (.fR 0), .comp (.dR 2), .recv (.dL 2), .comp (.dL 2),
   .recv (.dR 3), .sendC (.fR 1), .comp (.dR 3), .recv (.dL 3), .comp (.dL 3),
   .recv (.zd 0), .comp (.zd 0), .recv (.zd 1), .comp (.zd 1),
   .recv (.fL 0), .comp (.fL 0), .recv (.fR 0), .comp (.fR 0),
   .recv (.fL 1), .comp (.fL 1), .recv (.fR 1), .comp (.fR 1),
   .finA (.zq 0), .finC (.dR 0), .finC (.dL 0), .finA (.zq 1), .finC (.dR 1), .finC (.dL 1),
   .finA (.zq 2), .finC (.dR 2), .finC (.dL 2), .finA (.zq 3), .finC (.dR 3), .finC (.dL 3),
   .finA (.zd 0), .finA (.zd 1), .finC (.fR 0), .finC (.fL 0), .finC (.fR 1), .finC (.fL 1),
   .out (.zq 0), .out (.zq 1), .out (.zq 2), .out (.zq 3),
   .out (.dR 0), .out (.dL 0), .out (.dR 1), .out (.dL 1), .out (.dR 2), .out (.dL 2), .out (.dR 3), .out (.dL 3),
   .out (.zd 0), .out (.zd 1), .out (.fL 0), .out (.fR 0), .out (.fL 1), .out (.fR 1)]

/-- The body's start: its own half copied in, the barrier with three neighbours, then the commands. -/
def prog : P F :=
  .op .deviceId fun d =>
  .op (.enqueueDma (half d) (.here Lo) (.dma halfSem) ((View.wordExact_bits rfl).reshape _ _) (Memref.isWhole_whole cc0_scratch1).wordExact ⟨Or.inl rfl, trivial⟩) fun _ =>
  .op (.semSignal ((⟨k0_dev1 d, k0_dev1_lt d⟩ : Dev nD), .tc) barS (1#32).toInt) fun _ =>
  .op (.semSignal ((⟨k0_dev2 d, k0_dev2_lt d⟩ : Dev nD), .tc) barS (1#32).toInt) fun _ =>
  .op (.semSignal ((⟨k0_dev3 d, k0_dev3_lt d⟩ : Dev nD), .tc) barS (1#32).toInt) fun _ =>
  .op (.semWait barS (3#32).toInt) fun _ =>
  runL d cmds

set_option maxHeartbeats 0 in
set_option maxRecDepth 100000 in
/-- The body is that program. -/
theorem body_eq (t : Fin cfg0.N) : (bodyAt0 (F := F) t) = prog (F := F) := by
  rfl

end Cert.KernelIdeal.Net

end
-- ==== Proof.Geom.lean ====
/- Where the pieces lie.

   A device's number is `4 x + 2 y + z`. Its partner has the other `z`; the four devices of one `z` stand on a
   ring, in the order of their numbers 0, 2, 6, 4 (1, 3, 7, 5). Rows 0–255 of a half come from the partner in two
   pieces of 128 rows; the other 1792 rows are four quarters of four pieces of 112 rows, and a device gets the
   quarter of its own position from its partner and the other three around the ring. -/
module

public import proofs.«01_k».proof.Proof.Prog
public import Idealize.ShloMosaic.Lib.ValueLayout

@[expose] public section

noncomputable section

namespace Cert.KernelIdeal.Net

open Idealize.ShloMosaic Idealize.ShloMosaic.TcCoe
open Idealize.SL Idealize.SL.Sem
open Cert.KernelIdeal Cert.KernelIdeal.Gen

/-! ## The neighbours -/

/-- The device with the other `z`. -/
def partner : Dev nD → Dev nD := ![1, 0, 3, 2, 5, 4, 7, 6]
/-- The next device on the ring. -/
def right : Dev nD → Dev nD := ![2, 3, 6, 7, 0, 1, 4, 5]
/-- The previous device on the ring. -/
def left : Dev nD → Dev nD := ![4, 5, 0, 1, 6, 7, 2, 3]
/-- A device's position on its ring. -/
def pos : Dev nD → Nat := ![0, 0, 1, 1, 3, 3, 2, 2]

/-- Which of its three neighbours a device sends a piece to: the partner, the next, the previous. -/
def dir : Ck → Fin 3
  | .zq _ | .zd _ => 0
  | .dR _ | .fR _ => 1
  | .dL _ | .fL _ => 2

/-- The neighbours by number. -/
def nb : Fin 3 → Dev nD → Dev nD := ![partner, right, left]
/-- The way back. -/
def opp : Fin 3 → Fin 3 := ![0, 2, 1]

/-- The way back leads back. -/
theorem nb_opp (j : Fin 3) (c : Dev nD) : nb (opp j) (nb j c) = c := by revert j c; decide
/-- The way back from the way back. -/
theorem opp_opp (j : Fin 3) : opp (opp j) = j := by revert j; decide

/-- A neighbour as a permutation of the devices. -/
def nbEquiv (j : Fin 3) : Dev nD ≃ Dev nD :=
  ⟨nb j, nb (opp j), nb_opp j, fun c => by have := nb_opp (opp j) c; rwa [opp_opp] at this⟩

/-- A piece is sent to the neighbour of its direction. -/
theorem sendDev_eq (k : Ck) (d : Dev nD) : sendDev k d = nb (dir k) d := by revert k d; decide +kernel

/-- The barrier's three signals go to the three neighbours. -/
theorem sig1_eq (d : Dev nD) : (⟨k0_dev1 d, k0_dev1_lt d⟩ : Dev nD) = nb 0 d := by revert d; decide +kernel
/-- The second signal goes to the previous device of the ring. -/
theorem sig2_eq (d : Dev nD) : (⟨k0_dev2 d, k0_dev2_lt d⟩ : Dev nD) = nb 2 d := by revert d; decide +kernel
/-- The third signal goes to the next device of the ring. -/
theorem sig3_eq (d : Dev nD) : (⟨k0_dev3 d, k0_dev3_lt d⟩ : Dev nD) = nb 1 d := by revert d; decide +kernel

/-! ## The rows -/

/-- The first row of a piece on device `d`. -/
def rowN : Ck → Dev nD → Nat
  | .zq r, d => 256 + 448 * pos d + 112 * r.val
  | .zd r, _ => 128 * r.val
  | .dR r, d => 256 + 448 * ((pos d + 3) % 4) + 112 * r.val
  | .dL r, d => 256 + 448 * ((pos d + 1) % 4) + 112 * r.val
  | .fR r, d => 256 + 448 * ((pos d + 2) % 4) + 112 * (r.val + 2)
  | .fL r, d => 256 + 448 * ((pos d + 2) % 4) + 112 * r.val

/-- The offsets in closed form. -/
theorem rowOff_eq (k : Ck) (d : Dev nD) : rowOff k d = ![rowN k d, 0] := by revert k d; decide +kernel
/-- The rows a piece is loaded from are its own. -/
theorem ldOff_eq (k : Ck) (d : Dev nD) : ldOff k d = ![rowN k d, 0] := by revert k d; decide +kernel
/-- The rows a piece is sent from are its own. -/
theorem sOff_eq (k : Ck) (d : Dev nD) : sOff k d = ![rowN k (sendDev k d), 0] := by revert k d; decide +kernel

/-- The pieces that a device reads out of its operand. -/
def isA : Ck → Bool
  | .zq _ | .zd _ => true
  | .dR _ | .dL _ | .fR _ | .fL _ => false

/-- In the operand a piece lies in the receiver's half. -/
theorem aOff_eq (k : Ck) (d : Dev nD) (h : isA k = true) :
    aOff k d = ![0, 2048 * ((sendDev k d).val % 2) + rowN k (sendDev k d), 0] := by revert k d; decide +kernel

/-- Its own half of the operand. -/
theorem off1_eq (d : Dev nD) : k0_off1 d = ![0, 2048 * (d.val % 2), 0] := k0_off1_eq d

/-- The received piece that a piece handed on is a copy of. -/
def src : Ck → Ck
  | .dR r => .zq r
  | .dL r => .zq r
  | .fR r => .dR ⟨r.val + 2, by omega⟩
  | .fL r => .dL ⟨r.val, by omega⟩
  | .zq r => .zq r
  | .zd r => .zd r

/-- It lies on the same rows at the two ends. -/
theorem src_rowN (k : Ck) (d : Dev nD) (h : isA k = false) : rowN (src k) d = rowN k (sendDev k d) := by revert k d; decide +kernel
/-- A piece handed on is as long as the one it was. -/
theorem src_rows (k : Ck) : rows (src k) = rows k := by revert k; decide
/-- A piece handed on lies in one of the quarters. -/
theorem src_quarter (k : Ck) (d : Dev nD) (h : isA k = false) : 256 ≤ rowN k (sendDev k d) := by revert k d; decide +kernel
/-- The sender of a piece handed on stands on the receiver's ring. -/
theorem sendDev_z (k : Ck) (d : Dev nD) (h : isA k = false) : (sendDev k d).val % 2 = d.val % 2 := by revert k d; decide +kernel

/-- A piece lies within the half. -/
theorem rowN_le (k : Ck) (d : Dev nD) : rowN k d + rows k ≤ 2048 := by revert k d; decide +kernel

/-- Two pieces do not overlap. -/
theorem rowN_sep (d : Dev nD) (k k' : Ck) (h : k ≠ k') : rowN k d + rows k ≤ rowN k' d ∨ rowN k' d + rows k' ≤ rowN k d := by
  revert d k k'; decide +kernel

/-- The pieces cover the half. -/
theorem row_cover (d : Dev nD) (i : Fin 2048) : ∃ k, rowN k d ≤ i.val ∧ i.val < rowN k d + rows k := by
  revert d i; decide +kernel

/-- The rows from `a` on, `n` of them. -/
def rs (a n : Nat) : Finset S2048x2048.Idx := Finset.univ.filter fun i => a ≤ (i 0).val ∧ (i 0).val < a + n

/-- Membership of a row. -/
theorem mem_rs {a n : Nat} {i : S2048x2048.Idx} : i ∈ rs a n ↔ a ≤ (i 0).val ∧ (i 0).val < a + n := by simp [rs]

/-- The rows of a piece on device `d`. -/
abbrev cs (k : Ck) (d : Dev nD) : Finset S2048x2048.Idx := rs (rowN k d) (rows k)

/-- Different pieces are disjoint. -/
theorem cs_disjoint (d : Dev nD) {k k' : Ck} (h : k ≠ k') : Disjoint (cs k d) (cs k' d) := by
  rw [Finset.disjoint_left]
  intro i hi hi'
  rw [mem_rs] at hi hi'
  have := rowN_sep d k k' h
  omega

/-- Together they are the half. -/
theorem cs_cover (d : Dev nD) : Finset.univ.biUnion (fun k => cs k d) = (Finset.univ : Finset S2048x2048.Idx) := by
  ext i
  simp only [Finset.mem_biUnion, Finset.mem_univ, true_and, iff_true, mem_rs]
  exact row_cover d (i 0)

/-- The rectangle of whole rows is those rows. -/
theorem rect_set {a n : Nat} {off : Fin 2 → Nat} (e : off = ![a, 0]) (h : ∀ x, off x + (SC n).size x ≤ S2048x2048.size x) :
    (Rect.unit (s := S2048x2048) off (SC n).size h).set = rs a n := by
  subst e
  ext i
  rw [Rect.mem_set_unit, mem_rs]
  constructor
  · intro H; exact H 0
  · intro H x
    match x with
    | ⟨0, _⟩ => exact H
    | ⟨1, _⟩ => exact ⟨Nat.zero_le _, by show (i 1).val < 0 + 2048; have := (i 1).isLt; simpa using this⟩

end Cert.KernelIdeal.Net

end
-- ==== Proof.Content.lean ====
/- What the buffers hold.

   `H m c` is device `c`'s own half of its operand block, `Lc m c` what the pieces that come to it hold, all at the
   initial memory `m`; `Vc m c` the result. A piece handed on is the same on both devices, since the four devices of
   a ring want the same half. -/
module

public import proofs.«01_k».proof.Proof.Geom
public import Idealize.ShloMosaic.Lib.Pipeline.ValueKit.Geometry

@[expose] public section

noncomputable section

namespace Cert.KernelIdeal.Net

open Idealize.ShloMosaic Idealize.ShloMosaic.TcCoe
open Idealize.SL Idealize.SL.Sem
open Cert.KernelIdeal Cert.KernelIdeal.Gen

variable {F : FTy → Type} [FloatOps F]

/-- The memories of the eight devices. -/
abbrev MemT (F : FTy → Type) [FloatOps F] := (ℓ : Loc nD τ sig) → Buf (Elt F) ℓ

/-- Where row and column `i` of device `c`'s half lie in a block of the operand. -/
def hidx (c : Dev nD) (i : S2048x2048.Idx) : S1x4096x2048.Idx :=
  ValueIdx.ix3 (n0 := 1) (n1 := 4096) (n2 := 2048) 0 ⟨2048 * (c.val % 2) + (i 0).val, by
    have h0 : (i 0).val < 2048 := (i 0).isLt
    omega⟩ ⟨(i 1).val, (i 1).isLt⟩

/-- It depends on the device's `z` alone. -/
theorem hidx_congr {c d : Dev nD} (h : c.val % 2 = d.val % 2) (i : S2048x2048.Idx) : hidx c i = hidx d i := by
  unfold hidx; simp only [h]

variable (m : MemT F)

/-- Device `d`'s block of the operand, where device `c`'s half lies. -/
def Ah (c d : Dev nD) (i : S2048x2048.Idx) : Elt F .f32 := m ((d : Thread nD τ).loc main_arg0) (hidx c i)

/-- Device `c`'s own half. -/
def H (c : Dev nD) (i : S2048x2048.Idx) : Elt F .f32 := Ah m c c i

/-- The device of a `z` at a place of the ring. -/
def ringAt (z q : Nat) : Dev nD := (![![0, 2, 6, 4], ![1, 3, 7, 5]] : Fin 2 → Fin 4 → Dev nD) ⟨z % 2, Nat.mod_lt _ (by decide)⟩ ⟨q % 4, Nat.mod_lt _ (by decide)⟩

/-- The device whose operand the rows from `r` on come from, on device `c`. -/
def orig (c : Dev nD) (r : Nat) : Dev nD := partner (if r < 256 then c else ringAt (c.val % 2) ((r - 256) / 448))

/-- What comes to device `c`. -/
def Lc (c : Dev nD) (i : S2048x2048.Idx) : Elt F .f32 := Ah m c (orig c (i 0).val) i

/-- The scale. -/
def gam (c : Dev nD) : S2048.Idx → Elt F .f32 := m ((c : Thread nD τ).loc main_arg1)

/-- A device stands at its own place of its ring. -/
theorem ringAt_pos (d : Dev nD) : ringAt (d.val % 2) (pos d) = d := by revert d; decide

/-- A piece that comes from the partner was the partner's. -/
theorem orig_A (k : Ck) (c : Dev nD) (h : isA k = true) {n : Nat} (h1 : rowN k c ≤ n) (h2 : n < rowN k c + rows k) :
    orig c n = partner c := by
  cases k with
  | zq r =>
    have hr := r.isLt
    have hp : pos c < 4 := (by decide : ∀ c, pos c < 4) c
    simp only [rowN, rows] at h1 h2
    unfold orig
    rw [if_neg (by omega), show (n - 256) / 448 = pos c by omega, ringAt_pos]
  | zd r =>
    have hr := r.isLt
    simp only [rowN, rows] at h1 h2
    unfold orig
    rw [if_pos (by omega)]
  | dR r | dL r | fR r | fL r => exact absurd h Bool.false_ne_true

/-- What comes to a piece straight from the partner. -/
theorem Lc_A (k : Ck) (d : Dev nD) (h : isA k = true) {i : S2048x2048.Idx} (hi : i ∈ cs k (sendDev k d)) :
    Lc m (sendDev k d) i = Ah m (sendDev k d) d i := by
  rw [mem_rs] at hi
  unfold Lc
  rw [orig_A k (sendDev k d) h hi.1 hi.2, (by decide +kernel : ∀ (k : Ck) (d : Dev nD), isA k = true → partner (sendDev k d) = d) k d h]

/-- A piece handed on is the same at both ends. -/
theorem Lc_C (k : Ck) (d : Dev nD) (h : isA k = false) {i : S2048x2048.Idx} (hi : i ∈ cs k (sendDev k d)) :
    Lc m (sendDev k d) i = Lc m d i := by
  rw [mem_rs] at hi
  have h1 := src_quarter k d h
  have hz := sendDev_z k d h
  unfold Lc
  have ho : orig (sendDev k d) (i 0).val = orig d (i 0).val := by
    unfold orig
    rw [if_neg (by omega), if_neg (by omega), hz]
  rw [ho]
  unfold Ah
  rw [hidx_congr hz]

/-! ## The views' elements -/

/-- A slice of whole rows is those rows. -/
theorem Cm_set {n a : Nat} {off : Fin 2 → Nat} (e : off = ![a, 0]) (h) : (sl Cm n off h).view.set = rs a n :=
  (View.set_slice_whole _ _).trans (rect_set e h)
/-- The same of the buffer of its own half. -/
theorem Lo_set {n a : Nat} {off : Fin 2 → Nat} (e : off = ![a, 0]) (h) : (sl Lo n off h).view.set = rs a n :=
  (View.set_slice_whole _ _).trans (rect_set e h)
/-- The same of the staging buffer. -/
theorem Sg_set {n a : Nat} {off : Fin 2 → Nat} (e : off = ![a, 0]) (h) : (sl Sg n off h).view.set = rs a n :=
  (View.set_slice_whole _ _).trans (rect_set e h)
/-- The same of the result. -/
theorem Ou_set {n a : Nat} {off : Fin 2 → Nat} (e : off = ![a, 0]) (h) : (sl Ou n off h).view.set = rs a n :=
  (View.set_slice_whole _ _).trans (rect_set e h)

/-- Where an element of a piece lies. -/
theorem sl_emb {n : Nat} {off : Fin 2 → Nat} (h : ∀ x, off x + (SC n).size x ≤ S2048x2048.size x) (x : (SC n).Idx) (a : Fin 2) :
    ((Rect.unit (s := S2048x2048) off (SC n).size h).emb x a).val = off a + (x a).val :=
  ValueKit.rect_emb_unit_val (s := S2048x2048) off (SC n).size h x a

/-- Its own half of a block, element by element. -/
theorem half_emb (d : Dev nD) (i : S2048x2048.Idx) : (half d).view.emb i = hidx d i := by
  show (Rect.unit (s := S1x4096x2048) (k0_off1 d) S1x2048x2048.size (k0_off1_inb d)).emb
    (Shape.reshapeEquiv (squeezes_S1x2048x2048_S2048x2048).numel_eq i) = hidx d i
  rw [Shape.reshapeEquiv_cons_one]
  funext a
  apply Fin.ext
  refine (ValueKit.rect_emb_unit_val (s := S1x4096x2048) _ _ _ _ a).trans ((congrArg (· + _) (congrFun (off1_eq d) a)).trans ?_)
  match a with
  | ⟨0, _⟩ => rfl
  | ⟨1, _⟩ => rfl
  | ⟨2, _⟩ => exact Nat.zero_add _

/-- The rows of a block that a piece is sent from, element by element. -/
theorem asl_emb (k : Ck) (d : Dev nD) (hk : isA k = true) (x : (SC (rows k)).Idx) :
    (asl k d).view.emb x = hidx (sendDev k d) ((sl Cm (rows k) (sOff k d) (sOff_inb k d)).view.emb x) := by
  show (Rect.unit (s := S1x4096x2048) (aOff k d) (SC1 (rows k)).size (aOff_inb k d)).emb
    (Shape.reshapeEquiv (rows_squeezes k).numel_eq x)
      = hidx (sendDev k d) ((Rect.unit (s := S2048x2048) (sOff k d) (SC (rows k)).size (sOff_inb k d)).emb x)
  rw [Shape.reshapeEquiv_cons_one]
  funext a
  apply Fin.ext
  refine (ValueKit.rect_emb_unit_val (s := S1x4096x2048) _ _ _ _ a).trans ((congrArg (· + _) (congrFun (aOff_eq k d hk) a)).trans ?_)
  match a with
  | ⟨0, _⟩ => rfl
  | ⟨1, _⟩ =>
    show 2048 * ((sendDev k d).val % 2) + rowN k (sendDev k d) + (x 0).val
      = 2048 * ((sendDev k d).val % 2) + ((Rect.unit (s := S2048x2048) (sOff k d) (SC (rows k)).size (sOff_inb k d)).emb x 0).val
    rw [sl_emb, sOff_eq]
    exact Nat.add_assoc _ _ _
  | ⟨2, _⟩ =>
    show 0 + (x 1).val = ((Rect.unit (s := S2048x2048) (sOff k d) (SC (rows k)).size (sOff_inb k d)).emb x 1).val
    rw [sl_emb, sOff_eq]
    rfl

/-- Reading its own half gives its own half. -/
theorem half_read (c : Dev nD) : (half c).view.read (Elt F) (m ((c : Thread nD τ).loc main_arg0)) = H m c := by
  funext i
  show m ((c : Thread nD τ).loc main_arg0) ((half c).view.emb i) = _
  rw [half_emb]; rfl

/-- Copying its own half in leaves it there. -/
theorem half_write (c : Dev nD) (f : Buf (Elt F) ((c : Thread nD τ).loc cc0_scratch1)) :
    (Lo : Memref sig .tc .vmem S2048x2048 .f32).view.write (Elt F) f ((half c).view.read (Elt F) (m ((c : Thread nD τ).loc main_arg0))) Finset.univ = H m c := by
  rw [half_read]
  exact View.write_whole_univ _ _ _

/-- Sending a piece from the operand writes what the receiver is to have. -/
theorem write_A (k : Ck) (d : Dev nD) (hk : isA k = true) (f : Buf (Elt F) ((sendDev k d : Thread nD τ).loc cc0_scratch0))
    {i : S2048x2048.Idx} (hi : i ∈ cs k (sendDev k d)) :
    (sl Cm (rows k) (sOff k d) (sOff_inb k d)).view.write (Elt F) f
      ((asl k d).view.read (Elt F) (m ((d : Thread nD τ).loc main_arg0))) Finset.univ i = Lc m (sendDev k d) i := by
  have hi' : i ∈ (sl Cm (rows k) (sOff k d) (sOff_inb k d)).view.set := by rw [Cm_set (sOff_eq k d)]; exact hi
  obtain ⟨x, -, rfl⟩ := Finset.mem_map.mp hi'
  refine ((View.write_emb_of_mem _ _ (Finset.mem_univ x)).trans ?_).trans (Lc_A m k d hk hi).symm
  show m ((d : Thread nD τ).loc main_arg0) ((asl k d).view.emb x) = _
  rw [asl_emb k d hk]; rfl

/-- Handing a piece on writes what the receiver is to have. -/
theorem write_C (k : Ck) (d : Dev nD) (hk : isA k = false) (f : Buf (Elt F) ((sendDev k d : Thread nD τ).loc cc0_scratch0))
    {i : S2048x2048.Idx} (hi : i ∈ cs k (sendDev k d)) :
    (sl Cm (rows k) (sOff k d) (sOff_inb k d)).view.write (Elt F) f
      ((sl Cm (rows k) (sOff k d) (sOff_inb k d)).view.read (Elt F) (Lc m d)) Finset.univ i = Lc m (sendDev k d) i := by
  have hi' : i ∈ (sl Cm (rows k) (sOff k d) (sOff_inb k d)).view.set := by rw [Cm_set (sOff_eq k d)]; exact hi
  obtain ⟨x, -, rfl⟩ := Finset.mem_map.mp hi'
  exact ((View.write_emb_of_mem _ _ (Finset.mem_univ x)).trans rfl).trans (Lc_C m k d hk hi).symm

/-! ## The result -/

/-- A piece's result, from the two contributions to it and the scale. -/
def pieceV (k : Ck) (c : Dev nD) : FVec F (SC (rows k)) .f32 :=
  norm (rows_facts k) ((sl Lo (rows k) (ldOff k c) (ldOff_inb k c)).view.read (Elt F) (H m c))
    ((sl Cm (rows k) (ldOff k c) (ldOff_inb k c)).view.read (Elt F) (Lc m c)) (gam m c)

/-- The result's rows of a piece. -/
def Vk (k : Ck) (c : Dev nD) : S2048x2048.Idx → Elt F .f32 :=
  (sl Ou (rows k) (rowOff k c) (rowOff_inb k c)).view.write (Elt F) (m ((c : Thread nD τ).loc main_v1)) (pieceV m k c) Finset.univ

/-- The piece an element lies in. -/
def kOf (c : Dev nD) (i : S2048x2048.Idx) : Ck := (row_cover c (i 0)).choose

/-- An element of a piece lies in no other. -/
theorem kOf_eq {c : Dev nD} {k : Ck} {i : S2048x2048.Idx} (hi : i ∈ cs k c) : kOf c i = k := by
  by_contra hne
  exact Finset.disjoint_left.mp (cs_disjoint c hne) (mem_rs.mpr (row_cover c (i 0)).choose_spec) hi

/-- The result. -/
def Vc (c : Dev nD) (i : S2048x2048.Idx) : Elt F .f32 := Vk m (kOf c i) c i

/-- Copying a piece's result out leaves the result there. -/
theorem write_out (k : Ck) (c : Dev nD) (f : Buf (Elt F) ((c : Thread nD τ).loc main_v1)) (g : Buf (Elt F) ((c : Thread nD τ).loc cc0_scratch2))
    {i : S2048x2048.Idx} (hi : i ∈ cs k c) :
    (sl Ou (rows k) (rowOff k c) (rowOff_inb k c)).view.write (Elt F) f
      ((sl Sg (rows k) (rowOff k c) (rowOff_inb k c)).view.read (Elt F)
        ((Sg.access (Rect.unit (s := S2048x2048) (ldOff k c) (SC (rows k)).size (ldOff_inb k c)) : View sig .tc _ _ _).write (Elt F) g (pieceV m k c) Finset.univ))
      Finset.univ i = Vc m c i := by
  unfold Vc
  rw [kOf_eq hi]
  unfold Vk
  have hi' : i ∈ (sl Ou (rows k) (rowOff k c) (rowOff_inb k c)).view.set := by rw [Ou_set (rowOff_eq k c)]; exact hi
  obtain ⟨x, -, rfl⟩ := Finset.mem_map.mp hi'
  refine (View.write_emb_of_mem _ _ (Finset.mem_univ x)).trans (Eq.trans ?_ (View.write_emb_of_mem _ _ (Finset.mem_univ x)).symm)
  have e : (sl Sg (rows k) (rowOff k c) (rowOff_inb k c)).view.emb x
      = (Sg.access (Rect.unit (s := S2048x2048) (ldOff k c) (SC (rows k)).size (ldOff_inb k c)) : View sig .tc _ _ _).emb x := by
    show (Rect.unit (s := S2048x2048) (rowOff k c) (SC (rows k)).size (rowOff_inb k c)).emb x
      = (Rect.unit (s := S2048x2048) (ldOff k c) (SC (rows k)).size (ldOff_inb k c)).emb x
    funext a; apply Fin.ext; rw [sl_emb, sl_emb, rowOff_eq, ldOff_eq]
  rw [View.read_apply, e]
  exact congrArg _ (View.write_emb_of_mem _ _ (Finset.mem_univ x))

end Cert.KernelIdeal.Net

end
-- ==== Proof.Sched.lean ====
/- Who signals what, and what comes with it.

   Each semaphore is used for one round. Three neighbours raise the barrier's semaphore, each handing over the rows of
   its buffer that this device is to fill; a piece's landing hands the device the piece; a piece sent gives the sender
   its source back; a copy gives its destination and its source back. -/
module

public import proofs.«01_k».proof.Proof.Content
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.KernelIdeal.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The semaphores -/

/-- The kernel's own semaphores: the copy of its half; and, per piece, its landing, its sending, its copy out. -/
inductive Ox
  | cpy | rcv (k : Ck) | snd (k : Ck) | out (k : Ck)
deriving DecidableEq

namespace Ox
/-- All of them. -/
def all : List Ox := cpy :: (Ck.all.map rcv ++ (Ck.all.map snd ++ Ck.all.map out))
/-- Every piece is in the list. -/
theorem mem_ck (k : Ck) : k ∈ Ck.all := by rcases k with (r | r | r | r | r | r) <;> revert r <;> decide
/-- No name is twice in the list. -/
theorem nodup : all.Nodup := by decide
/-- Every name is in the list. -/
theorem mem_all (x : Ox) : x ∈ all := by
  unfold all
  cases x with
  | cpy => exact List.mem_cons_self
  | rcv k => exact List.mem_cons_of_mem _ (List.mem_append_left _ (List.mem_map_of_mem (mem_ck k)))
  | snd k => exact List.mem_cons_of_mem _ (List.mem_append_right _ (List.mem_append_left _ (List.mem_map_of_mem (mem_ck k))))
  | out k => exact List.mem_cons_of_mem _ (List.mem_append_right _ (List.mem_append_right _ (List.mem_map_of_mem (mem_ck k))))
/-- There are finitely many names. -/
instance : Fintype Ox := ⟨⟨all, nodup⟩, mem_all⟩
end Ox

/-- The barrier's semaphore and the kernel's own. -/
inductive Cx
  | bar | own (x : Ox)
deriving DecidableEq

namespace Cx
/-- All of them. -/
def all : List Cx := bar :: Ox.all.map own
/-- No name is twice in the list. -/
theorem nodup : all.Nodup := by decide
/-- Every name is in the list. -/
theorem mem_all (x : Cx) : x ∈ all := by
  unfold all
  cases x with
  | bar => exact List.mem_cons_self
  | own x => exact List.mem_cons_of_mem _ (List.mem_map_of_mem (Ox.mem_all x))
/-- There are finitely many names. -/
instance : Fintype Cx := ⟨⟨all, nodup⟩, mem_all⟩
end Cx

/-- The semaphore of a name. -/
def osem : Ox → SemLoc sig
  | .cpy => .dma halfSem
  | .rcv k => .dma (recvSem k)
  | .snd k => .dma (sendSem k)
  | .out k => .dma (outSem k)

/-- The semaphore of a name. -/
def csem : Cx → SemLoc sig
  | .bar => .reg barS
  | .own x => osem x

/-- A semaphore's name. -/
def dec (s : SemLoc sig) : Option Cx := Cx.all.find? fun x => decide (csem x = s)

/-- The name read off a name's semaphore is that name. -/
theorem dec_csem (x : Cx) : dec (csem x) = some x := by
  revert x; decide +kernel

/-- Different names have different semaphores. -/
theorem csem_inj : Function.Injective csem := fun x y h => by
  have := congrArg dec h
  rw [dec_csem, dec_csem] at this
  exact Option.some.inj this

/-- The cell of a semaphore on a device. -/
abbrev cell (c : Dev nD) (x : Cx) : GSem nD τ sig := ((c : Thread nD τ), csem x)
/-- The copy of its own half. -/
abbrev cpyC (c : Dev nD) : GSem nD τ sig := ((c : Thread nD τ), .dma halfSem)
/-- The landing of a piece. -/
abbrev rcvC (c : Dev nD) (k : Ck) : GSem nD τ sig := ((c : Thread nD τ), .dma (recvSem k))
/-- A piece having been read. -/
abbrev sndC (c : Dev nD) (k : Ck) : GSem nD τ sig := ((c : Thread nD τ), .dma (sendSem k))
/-- A result being out. -/
abbrev outC (c : Dev nD) (k : Ck) : GSem nD τ sig := ((c : Thread nD τ), .dma (outSem k))
/-- The barrier. -/
abbrev barC (c : Dev nD) : GSem nD τ sig := ((c : Thread nD τ), .reg barS)

/-- What a piece's transfer credits. -/
def NC (k : Ck) : ℕ := (sl Cm (rows k) (rowOff k 0) (rowOff_inb k 0)).view.dmaCredit
/-- What a copy out credits. -/
def NO (k : Ck) : ℕ := (sl Ou (rows k) (rowOff k 0) (rowOff_inb k 0)).view.dmaCredit
/-- What the copy in credits. -/
def NL : ℕ := (Lo : Memref sig .tc .vmem S2048x2048 .f32).view.dmaCredit

/-- A piece's transfer credits more than zero. -/
theorem NC_pos (k : Ck) : 0 < NC k := View.dmaCredit_pos _ (rows_pos k)
/-- A copy out credits more than zero. -/
theorem NO_pos (k : Ck) : 0 < NO k := View.dmaCredit_pos _ (rows_pos k)
/-- The copy in credits more than zero. -/
theorem NL_pos : 0 < NL := View.dmaCredit_pos _ (by decide)

/-- The credit of a piece does not depend on where it lies. -/
theorem NC_sl (k : Ck) {off : Fin 2 → Nat} (h) : (sl Cm (rows k) off h).view.dmaCredit = NC k := rfl
/-- A copy out credits the same wherever the piece lies. -/
theorem NO_sl (k : Ck) {off : Fin 2 → Nat} (h) : (sl Ou (rows k) off h).view.dmaCredit = NO k := rfl
/-- A piece of the operand credits what it credits when it lands. -/
theorem NC_asl (k : Ck) (d : Dev nD) : (asl k d).view.dmaCredit = NC k := by
  cases k <;> rfl

/-! ## Resources -/

/-- The protocol's own resources. -/
abbrev UB : Type := URounds (GSem nD τ sig) (Fin 3)
/-- The pipeline's resources and the protocol's, together. -/
abbrev UU : Type := UR sig nD τ × UB

local notation "𝕄" => MT nD τ sig Unit (Elt F) ℕ UU ℕ

/-- Where the pipeline's resources lie in the whole. -/
abbrev EP : Emb (UR sig nD τ) (MT nD τ sig Unit (Elt F) ℕ UU ℕ) := embL
/-- Where the protocol's lie. -/
abbrev ER : Emb UB (MT nD τ sig Unit (Elt F) ℕ UU ℕ) := embR

variable (m : MemT F)

/-- Rows of the buffer of pieces at what is to come. -/
def cmP (c : Dev nD) (k : Ck) (q : PosShare TreeShare) : sProp 𝕄 :=
  ((c : Thread nD τ).loc cc0_scratch0) ↦[cs k c]{q} (Lc m c)
/-- The same rows at anything. -/
def cmAny (c : Dev nD) (k : Ck) : sProp 𝕄 :=
  iprop(∃ f : Buf (Elt F) ((c : Thread nD τ).loc cc0_scratch0), ((c : Thread nD τ).loc cc0_scratch0) ↦[cs k c]{fullShare} f)
/-- Rows of the operand that are sent. -/
def argP (c : Dev nD) (k : Ck) : sProp 𝕄 :=
  ((c : Thread nD τ).loc main_arg0) ↦[(asl k c).view.set]{fullShare} (m ((c : Thread nD τ).loc main_arg0))
/-- Its own half of the operand. -/
def argH (c : Dev nD) : sProp 𝕄 :=
  ((c : Thread nD τ).loc main_arg0) ↦[(half c).view.set]{fullShare} (m ((c : Thread nD τ).loc main_arg0))
/-- Its own half copied in. -/
def loP (c : Dev nD) : sProp 𝕄 := ((c : Thread nD τ).loc cc0_scratch1) ↦{fullShare} (H m c)
/-- Rows of the buffer of results at anything. -/
def sgAny (c : Dev nD) (k : Ck) : sProp 𝕄 :=
  iprop(∃ f : Buf (Elt F) ((c : Thread nD τ).loc cc0_scratch2), ((c : Thread nD τ).loc cc0_scratch2) ↦[cs k c]{fullShare} f)
/-- Rows of the result at anything. -/
def ouAny (c : Dev nD) (k : Ck) : sProp 𝕄 :=
  iprop(∃ f : Buf (Elt F) ((c : Thread nD τ).loc main_v1), ((c : Thread nD τ).loc main_v1) ↦[cs k c]{fullShare} f)
/-- Rows of the result at the result. -/
def ouP (c : Dev nD) (k : Ck) : sProp 𝕄 := ((c : Thread nD τ).loc main_v1) ↦[cs k c]{fullShare} (Vc m c)
/-- The scale in its staging buffer. -/
def gaP (c : Dev nD) : sProp 𝕄 := ((c : Thread nD τ).loc cc0_stg0_0) ↦{fullShare} (gam m c)

/-- The three shares of a received piece: to work its result out, and for the two sends that hand it on. -/
def sh : Fin 3 → PosShare TreeShare := ![fullShare.left, fullShare.right.left, fullShare.right.right]
/-- Which of the two a piece handed on takes. -/
def slot : Ck → Fin 3
  | .dL _ => 2
  | .zq _ | .zd _ | .dR _ | .fR _ | .fL _ => 1

/-! ## The schedule -/

/-- What the neighbour of number `j` hands over at the barrier: the rows that this device fills on it. -/
def barPay (c : Dev nD) (j : Fin 3) : sProp 𝕄 :=
  bigSep (Finset.univ.filter fun k => dir k = j) fun k => cmAny (F := F) (sendDev k c) k

/-- What a send gives back. -/
def sndPay (c : Dev nD) (k : Ck) : sProp 𝕄 := if isA k = true then argP m c k else cmP m c (src k) (sh (slot k))

/-- What comes with each signal. -/
def pay (c : Dev nD) : Cx → Fin 3 → sProp 𝕄
  | .bar, j => barPay c j
  | .own .cpy, _ => iprop(loP m c ∗ argH m c)
  | .own (.rcv k), _ => cmP m c k fullShare
  | .own (.snd k), _ => sndPay m c k
  | .own (.out k), _ => iprop(ouP m c k ∗ sgAny c k)

/-- The signals of a semaphore. -/
def dut : Cx → Finset (Fin 3)
  | .bar => Finset.univ
  | .own _ => {0}

/-- How much each raises it. -/
def amt : Cx → ℕ
  | .bar => 1
  | .own .cpy => NL
  | .own (.rcv k) => NC k
  | .own (.snd k) => NC k
  | .own (.out k) => NO k

/-- No amount is zero. -/
theorem amt_pos (x : Cx) : 0 < amt x := by
  rcases x with _ | (_ | k | k | k)
  · exact Nat.one_pos
  · exact NL_pos
  · exact NC_pos k
  · exact NC_pos k
  · exact NO_pos k

/-- The schedule: one round of each. -/
def Rd : Rounds.Schedule (GSem nD τ sig) (Fin 3) 𝕄 where
  duties g r := if r = 0 then (match dec g.2 with | some x => dut x | none => ∅) else ∅
  unitless _ := False
  amount g _ _ := match dec g.2 with | some x => amt x | none => 1
  payload g _ d := match dec g.2 with | some x => pay m g.1.1 x d | none => iprop(emp)
  amount_pos g _ _ _ := by
    split
    · exact amt_pos _
    · exact Nat.one_pos

/-- What a signal hands over can be kept in a cell's record. -/
instance pay_storable (c : Dev nD) (x : Cx) (d : Fin 3) : BI.Storable (upEmb : UEmb _ 𝕄) (pay m c x d) := by
  rcases x with _ | (_ | k | k | k)
  · show BI.Storable (upEmb : UEmb _ 𝕄) (barPay c d); unfold barPay cmAny; infer_instance
  · show BI.Storable (upEmb : UEmb _ 𝕄) iprop(loP m c ∗ argH m c); unfold loP argH; infer_instance
  · show BI.Storable (upEmb : UEmb _ 𝕄) (cmP m c k fullShare); unfold cmP; infer_instance
  · show BI.Storable (upEmb : UEmb _ 𝕄) (sndPay m c k); unfold sndPay argP cmP; split <;> infer_instance
  · show BI.Storable (upEmb : UEmb _ 𝕄) iprop(ouP m c k ∗ sgAny c k); unfold ouP sgAny; infer_instance

/-- The same of the schedule's own reading of a cell. -/
instance Rd_payload_storable (g : GSem nD τ sig) (r : ℕ) (d : Fin 3) : BI.Storable (upEmb : UEmb _ 𝕄) ((Rd (F := F) m).payload g r d) := by
  show BI.Storable (upEmb : UEmb _ 𝕄) (match dec g.2 with | some x => pay m g.1.1 x d | none => iprop(emp))
  split <;> infer_instance

/-- The signals of a cell's first round are those of its semaphore. -/
theorem duties_eq (c : Dev nD) (x : Cx) : (Rd (F := F) m).duties (cell c x) 0 = dut x := by
  dsimp only [Rd]; rw [if_pos rfl, dec_csem]
/-- A cell has no signals in a later round. -/
theorem duties_later (g : GSem nD τ sig) : ∀ r, 1 ≤ r → (Rd (F := F) m).duties g r = ∅ :=
  fun r hr => by dsimp only [Rd]; exact if_neg fun h => by omega
/-- Each signal of a cell raises it by the semaphore's amount. -/
theorem amount_eq (c : Dev nD) (x : Cx) (d : Fin 3) : (Rd (F := F) m).amount (cell c x) 0 d = amt x := by
  dsimp only [Rd]; rw [dec_csem]
/-- Each signal of a cell hands over what belongs to the semaphore. -/
theorem payload_eq (c : Dev nD) (x : Cx) (d : Fin 3) : (Rd (F := F) m).payload (cell c x) 0 d = pay m c x d := by
  dsimp only [Rd]; rw [dec_csem]
/-- An own semaphore expects the amount of its one signal. -/
theorem expect_own (c : Dev nD) (x : Ox) : (Rd (F := F) m).expect (cell c (.own x)) 0 = amt (.own x) := by
  unfold Schedule.expect Schedule.amountOf; rw [duties_eq, dut, Finset.sum_singleton, amount_eq]
/-- The barrier expects three. -/
theorem expect_bar (c : Dev nD) : (Rd (F := F) m).expect (cell c .bar) 0 = 3 := by
  unfold Schedule.expect Schedule.amountOf; rw [duties_eq, Finset.sum_congr rfl fun d _ => amount_eq m c .bar d]; rfl
/-- A wait for an own semaphore brings what its one signal hands over. -/
theorem rest_own (c : Dev nD) (x : Ox) :
    bigSep ((Rd (F := F) m).duties (cell c (.own x)) 0 \ ∅) (fun u => (Rd (F := F) m).payload (cell c (.own x)) 0 u) = pay m c (.own x) 0 := by
  rw [Finset.sdiff_empty, duties_eq, dut, bigSep_singleton, payload_eq]
/-- The barrier's wait brings what the three neighbours hand over. -/
theorem rest_bar (c : Dev nD) :
    bigSep ((Rd (F := F) m).duties (cell c .bar) 0 \ ∅) (fun u => (Rd (F := F) m).payload (cell c .bar) 0 u) = bigSep Finset.univ fun j => barPay c j := by
  rw [Finset.sdiff_empty, duties_eq, dut]; exact bigSep_congr fun j _ => payload_eq m c .bar j

/-! ## What is owed, and in what order -/

/-- How far along its way a piece is. -/
def lvk : Ck → ℕ
  | .zq _ | .zd _ => 2
  | .dR _ | .dL _ => 3
  | .fR _ | .fL _ => 4

/-- The order of the semaphores. -/
def lvx : Cx → ℕ
  | .bar => 1
  | .own (.rcv k) => lvk k
  | .own _ => 0

/-- The order of the cells. -/
def lv (g : GSem nD τ sig) (_ : Unit) : ℕ := match dec g.2 with | some x => lvx x | none => 0
/-- The one index of a cell of a TensorCore. -/
def L (g : GSem nD τ sig) : Finset Unit := if g.1.2 = .tc then {()} else ∅

/-- A cell that is not of a TensorCore has no index. -/
theorem L_of_ne (g : GSem nD τ sig) (h : g.1.2 ≠ .tc) : L g = ∅ := if_neg h
/-- A cell of a TensorCore has the one index. -/
theorem L_tc (c : Dev nD) (sm : SemLoc sig) : L ((c : Thread nD τ), sm) = {()} := if_pos rfl
/-- A cell's place in the order is its semaphore's. -/
theorem lv_cell (c : Dev nD) (x : Cx) (u : Unit) : lv (cell c x) u = lvx x := by dsimp only [lv]; rw [dec_csem]

/-- What a device still owes: the landings of the pieces it has not sent. -/
def owedL (c : Dev nD) : List Ck → CellTallies nD τ sig Unit
  | [] => 0
  | k :: ks => owedL c ks + tallyAt (rcvC (sendDev k c) k) () (NC k)

/-- What it owes is one of those. -/
theorem owedL_pos {c : Dev nD} {g : GSem nD τ sig} {u : Unit} : {ks : List Ck} → 0 < owedL c ks g u → ∃ k ∈ ks, g = cell (sendDev k c) (.own (.rcv k))
  | [], h => absurd h (Nat.lt_irrefl 0)
  | k :: ks, h => by
    unfold owedL at h
    rw [Pi.add_apply, Finsupp.add_apply, tallyAt_apply] at h
    by_cases hg : g = rcvC (sendDev k c) k ∧ u = ()
    · exact ⟨k, List.mem_cons_self, hg.1⟩
    · rw [if_neg hg] at h
      obtain ⟨k', hk', e⟩ := owedL_pos (ks := ks) (by omega)
      exact ⟨k', List.mem_cons_of_mem _ hk', e⟩

/-- A wait below everything owed is allowed. -/
theorem mayWait_sem (c : Dev nD) (sm : SemLoc sig) (n : ℕ) (hs : lv ((c : Thread nD τ), sm) () = n) (O : CellTallies nD τ sig Unit)
    (hO : ∀ g u, 0 < O g u → ∃ d x, g = cell d x ∧ n < lvx x) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨d, x, rfl, -⟩ := hO g u hg
      rw [L_tc]; exact Finset.mem_singleton_self _)
    (fun p hp => by rw [Finset.mem_singleton.mp hp]; exact hs.le)
    (fun g u hg => by
      obtain ⟨d, x, rfl, h⟩ := hO g u hg
      rw [lv_cell]; exact h)

/-- A device may wait for a semaphore that lies below the landings of all pieces it has yet to send. -/
theorem mayWait_cell (c : Dev nD) (x : Cx) (ks : List Ck) (h : ∀ k ∈ ks, lvx x < lvk k) :
    (levAts L lv : sProp 𝕄) ⊢ MayWait (c : Thread nD τ) (csem x) () (owedL c ks) :=
  mayWait_sem c (csem x) (lvx x) (lv_cell c x ()) _ fun g u hg => by
    obtain ⟨k, hk, rfl⟩ := owedL_pos hg
    exact ⟨_, _, rfl, h k hk⟩

end Cert.KernelIdeal.Net

end
-- ==== Proof.Steps.lean ====
/- Each command of the body, from what it takes to what it leaves. -/
module

public import proofs.«01_k».proof.Proof.Sched

@[expose] public section

noncomputable section

namespace Cert.KernelIdeal.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : MemT F)

/-- No loop needs a variant. -/
abbrev 𝒱₀ : Variants := Variants.none

/-! ## What every device may look up -/

/-- Every cell's invariant, and that its one round is open. -/
def records (K : Dev nD × Cx → ℕ) : sProp 𝕄 :=
  iprop((bigSep Finset.univ fun ck : Dev nD × Cx => cellInv ER (Rd m) (K ck) (cell ck.1 ck.2))
    ∗ bigSep Finset.univ fun ck : Dev nD × Cx => reached ER (cell ck.1 ck.2) 0)
/-- The records can be used again and again. -/
instance records_persistent (K : Dev nD × Cx → ℕ) : BI.Persistent (records m K) := by unfold records; infer_instance

/-- And the order of the cells. -/
def ctx (K : Dev nD × Cx → ℕ) : sProp 𝕄 := iprop(records m K ∗ levAts L lv)
/-- So can the records with the order of the cells. -/
instance ctx_persistent (K : Dev nD × Cx → ℕ) : BI.Persistent (ctx m K) := by unfold ctx; infer_instance

variable (K : Dev nD × Cx → ℕ)

/-- The invariants of all cells give that of any one. -/
theorem inv_at (ck : Dev nD × Cx) :
    (bigSep Finset.univ fun ck : Dev nD × Cx => (cellInv ER (Rd m) (K ck) (cell ck.1 ck.2) : sProp 𝕄)) ⊢ cellInv ER (Rd m) (K ck) (cell ck.1 ck.2) :=
  bigSep_elim (Finset.mem_univ ck)
/-- All cells' rounds being open gives that any one's is. -/
theorem reached_at (ck : Dev nD × Cx) :
    (bigSep Finset.univ fun ck : Dev nD × Cx => (reached ER (cell ck.1 ck.2) 0 : sProp 𝕄)) ⊢ reached ER (cell ck.1 ck.2) 0 :=
  bigSep_elim (Finset.mem_univ ck)
/-- The records give a cell's invariant. -/
theorem ctx_inv (c : Dev nD) (x : Cx) : ctx m K ⊢ cellInv ER (Rd m) (K (c, x)) (cell c x) := by
  unfold ctx records
  iintro ⟨⟨H, -⟩, -⟩
  iapply (inv_at m K (c, x))
  iexact H
/-- The records give that a cell's round is open. -/
theorem ctx_reached (c : Dev nD) (x : Cx) : ctx m K ⊢ reached ER (cell c x) 0 := by
  unfold ctx records
  iintro ⟨⟨-, H⟩, -⟩
  iapply (reached_at (F := F) (c, x))
  iexact H
/-- The order of the cells. -/
theorem ctx_lev : ctx m K ⊢ (levAts L lv : sProp 𝕄) := by
  unfold ctx
  iintro ⟨-, H⟩
  iexact H

/-- What it owes, whatever it has waited for. -/
def owesE (c : Dev nD) (os : List Ck) : sProp 𝕄 := iprop(∃ W, owes (c : Thread nD τ) (owedL c os) W)

/-! ## The resources of the commands -/

/-- A semaphore that was waited for; one about to be. -/
abbrev doneC (c : Dev nD) (x : Ox) : sProp 𝕄 := atPos ER (cell c (.own x)) (0 + 1) ∅ 0
/-- A semaphore not waited for yet. -/
abbrev idleC (c : Dev nD) (x : Ox) : sProp 𝕄 := atPos ER (cell c (.own x)) 0 ∅ 0
/-- A semaphore that may be waited for, with the credit for it. -/
abbrev waitC (c : Dev nD) (x : Ox) : sProp 𝕄 := iprop(cred (tallyAt (cell c (.own x)) () (amt (.own x))) ∗ idleC c x)

/-- Resources by name. -/
inductive Res
  | halfW | loc | ga
  | rW (k : Ck) | rD (k : Ck) | cm (k : Ck) (j : Fin 3)
  | sT (k : Ck) | aP (k : Ck) | sW (k : Ck) | sD (k : Ck)
  | cR (k : Ck) | oW (k : Ck) | oD (k : Ck)
deriving DecidableEq

/-- What a piece to be sent needs: its two signals and the rows it is to fill. -/
def sTok (c : Dev nD) (k : Ck) : sProp 𝕄 :=
  iprop(idleC c (.snd k) ∗ dutyTok ER (sndC c k) 0 0 ∗ dutyTok ER (rcvC (sendDev k c) k) 0 0 ∗ cmAny (F := F) (sendDev k c) k)
/-- What a piece's result needs. -/
def cTok (c : Dev nD) (k : Ck) : sProp 𝕄 :=
  iprop(idleC c (.out k) ∗ dutyTok ER (outC c k) 0 0 ∗ sgAny (F := F) c k ∗ ouAny (F := F) c k)

/-- The resources. -/
def ri (c : Dev nD) : Res → sProp 𝕄
  | .halfW => waitC c .cpy
  | .loc => iprop(loP m c ∗ argH m c ∗ doneC c .cpy)
  | .ga => gaP m c
  | .rW k => waitC c (.rcv k)
  | .rD k => doneC c (.rcv k)
  | .cm k j => cmP m c k (sh j)
  | .sT k => sTok c k
  | .aP k => argP m c k
  | .sW k => waitC c (.snd k)
  | .sD k => doneC c (.snd k)
  | .cR k => cTok c k
  | .oW k => waitC c (.out k)
  | .oD k => iprop(doneC c (.out k) ∗ ouP m c k ∗ sgAny c k)

/-- Running a program on a device. -/
abbrev WP (c : Dev nD) (p : P F) (Q : PUnit → sProp 𝕄) : sProp 𝕄 :=
  wp frame (wpE (defs₀ (F := F)) 𝒱₀ (c : Thread nD τ) none) Set.univ p Q

/-! ## The waits -/

/-- A wait for one of its own semaphores. -/
theorem wait_own (c : Dev nD) (x : Ox) (os : List Ck) (hlv : ∀ j ∈ os, lvx (.own x) < lvk j)
    {sp sp' : Space} {s s' : Shape} {e e' : EltTy} {sem : DmaSem sig} (hsem : osem x = .dma sem)
    {a : Memref sig .tc sp s e} {b : Memref sig .tc sp' s' e'} {ha : a.view.WordExact} {hb : b.view.WordExact}
    (hN : b.view.dmaCredit = amt (.own x)) (rest : PUnit → P F) (Q : PUnit → sProp 𝕄) :
    iprop(ctx m K ∗ waitC c x ∗ owesE c os) ⊢ iprop(((doneC c x ∗ pay m c (.own x) 0 ∗ owesE c os) -∗ WP c (rest ⟨⟩) Q)
      -∗ WP c (.op (.waitDma2 sem a b ha hb) rest) Q) := by
  unfold owesE
  iintro ⟨#Hctx, ⟨Hc, Hat⟩, ⟨%W, HO⟩⟩
  iintro Hk
  have hcell : ((c : Thread nD τ), SemLoc.dma sem) = cell c (.own x) := by rw [← hsem]; rfl
  ihave #Hinv := (ctx_inv m K c (.own x)) $$ Hctx
  ihave #Hlev := (ctx_lev m K) $$ Hctx
  have hw : (levAts L lv : sProp 𝕄) ⊢ MayWait (c : Thread nD τ) (.dma sem) () (owedL c os) := by
    have := mayWait_cell (F := F) c (.own x) os hlv
    rw [show csem (.own x) = .dma sem from hsem] at this
    exact this
  iapply (Rounds.wp_wait_rest_token 𝒱₀ ER (Rd m) (c : Thread nD τ) none (sm := .dma sem) (κ := K (c, .own x))
    (wpE_waitDma2_eq 𝒱₀ (c : Thread nD τ) none Set.univ) (Set.mem_univ _) () (O := owedL c os) (W := W) (R := 0) (m := 0) (T := ∅)
    (by rw [Nat.zero_add, hcell, expect_own, hN])) $$ [Hc HO Hat]
  · rw [hcell, hN]
    isplitr; · iexact Hinv
    isplitl [Hc]; · iexact Hc
    isplitl [HO]; · iexact HO
    isplitr; · iapply hw; iexact Hlev
    iexact Hat
  rw [hcell]
  iintro ⟨HO, Hat, -, Hpay⟩
  iapply Hk
  isplitl [Hat]; · iexact Hat
  isplitl [Hpay]; · iapply (Entails.of_eq (rest_own m c x)); iexact Hpay
  iexists _; iexact HO

/-! ## The sends -/

/-- A piece handed on has the same rows on both devices. -/
theorem src_cs (k : Ck) (c : Dev nD) (hk : isA k = false) : cs (src k) c = cs k (sendDev k c) := by
  unfold cs; rw [src_rowN k c hk, src_rows]

/-- A piece sent from the operand. -/
theorem send_A (c : Dev nD) (k : Ck) (hk : isA k = true) (os : List Ck) (rest : P F) (Q : PUnit → sProp 𝕄) :
    iprop(ctx m K ∗ sTok c k ∗ argP m c k ∗ owesE c (k :: os)) ⊢ iprop(((waitC c (.snd k) ∗ owesE c os) -∗ WP c rest Q)
      -∗ WP c (step c (.sendA k) rest) Q) := by
  unfold step owesE sTok cmAny argP
  dsimp only
  iintro ⟨#Hctx, ⟨Hat, Ht1, Ht2, ⟨%f, Hd⟩⟩, Hs, ⟨%W, HO⟩⟩
  iintro Hk
  ihave #Hi1 := (ctx_inv m K c (.own (.snd k))) $$ Hctx
  ihave #Hi2 := (ctx_inv m K (sendDev k c) (.own (.rcv k))) $$ Hctx
  ihave #Hr1 := (ctx_reached m K c (.own (.snd k))) $$ Hctx
  ihave #Hr2 := (ctx_reached m K (sendDev k c) (.own (.rcv k))) $$ Hctx
  have hset : (sl Cm (rows k) (sOff k c) (sOff_inb k c)).view.set = cs k (sendDev k c) := Cm_set (sOff_eq k c) _
  iapply (Rounds.wp_send_pointsTo 𝒱₀ ER (Rd m) (c : Thread nD τ) none (c' := (sendDev k c : Thread nD τ))
    (src := asl k c) (dst := sl Cm (rows k) (sOff k c) (sOff_inb k c)) (sS := .dma (sendSem k)) (sem := .dma (recvSem k))
    (κ₁ := K (c, .own (.snd k))) (κ₂ := K (sendDev k c, .own (.rcv k)))
    (r₁ := 0) (r₂ := 0) (d₁ := 0) (d₂ := 0) (fd := f) (q := fullShare) (fs := m ((c : Thread nD τ).loc main_arg0))
    (by show (0 : Fin 3) ∈ (Rd m).duties (cell c (.own (.snd k))) 0; rw [duties_eq]; exact Finset.mem_singleton_self _)
    (by show (0 : Fin 3) ∈ (Rd m).duties (cell (sendDev k c) (.own (.rcv k))) 0; rw [duties_eq]; exact Finset.mem_singleton_self _)
    () () (NC k) (NC_sl k _) (amount_eq m c (.own (.snd k)) 0) (amount_eq m (sendDev k c) (.own (.rcv k)) 0) (owedL c os) rfl (W := W)
    (by
      show _ ⊢ (Rd m).payload (cell c (.own (.snd k))) 0 0
      rw [payload_eq]; show _ ⊢ sndPay m c k
      unfold sndPay argP; rw [if_pos hk])
    (by
      show _ ⊢ (Rd m).payload (cell (sendDev k c) (.own (.rcv k))) 0 0
      rw [payload_eq]; show _ ⊢ cmP m (sendDev k c) k fullShare
      unfold cmP; rw [hset]
      exact Entails.of_eq (pointsTo_congr fun i hi => write_A m k c hk f hi))) $$ [Ht1 Ht2 Hd Hs HO]
  · isplitr; · iexact Hi1
    isplitr; · iexact Hi2
    isplitl [Hs]; · iexact Hs
    isplitl [Hd]; · rw [hset]; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc Hat]
  · isplitl [Hc]; · iexact Hc
    iexact Hat
  iexists _; iexact HO

/-- A piece handed on. -/
theorem send_C (c : Dev nD) (k : Ck) (hk : isA k = false) (os : List Ck) (rest : P F) (Q : PUnit → sProp 𝕄) :
    iprop(ctx m K ∗ sTok c k ∗ cmP m c (src k) (sh (slot k)) ∗ owesE c (k :: os)) ⊢ iprop(((waitC c (.snd k) ∗ owesE c os) -∗ WP c rest Q)
      -∗ WP c (step c (.sendC k) rest) Q) := by
  unfold step owesE sTok cmAny cmP
  dsimp only
  iintro ⟨#Hctx, ⟨Hat, Ht1, Ht2, ⟨%f, Hd⟩⟩, Hs, ⟨%W, HO⟩⟩
  iintro Hk
  ihave #Hi1 := (ctx_inv m K c (.own (.snd k))) $$ Hctx
  ihave #Hi2 := (ctx_inv m K (sendDev k c) (.own (.rcv k))) $$ Hctx
  ihave #Hr1 := (ctx_reached m K c (.own (.snd k))) $$ Hctx
  ihave #Hr2 := (ctx_reached m K (sendDev k c) (.own (.rcv k))) $$ Hctx
  have hset : (sl Cm (rows k) (sOff k c) (sOff_inb k c)).view.set = cs k (sendDev k c) := Cm_set (sOff_eq k c) _
  iapply (Rounds.wp_send_pointsTo 𝒱₀ ER (Rd m) (c : Thread nD τ) none (c' := (sendDev k c : Thread nD τ))
    (src := sl Cm (rows k) (sOff k c) (sOff_inb k c)) (dst := sl Cm (rows k) (sOff k c) (sOff_inb k c)) (sS := .dma (sendSem k)) (sem := .dma (recvSem k))
    (κ₁ := K (c, .own (.snd k))) (κ₂ := K (sendDev k c, .own (.rcv k)))
    (r₁ := 0) (r₂ := 0) (d₁ := 0) (d₂ := 0) (fd := f) (q := sh (slot k)) (fs := Lc m c)
    (by show (0 : Fin 3) ∈ (Rd m).duties (cell c (.own (.snd k))) 0; rw [duties_eq]; exact Finset.mem_singleton_self _)
    (by show (0 : Fin 3) ∈ (Rd m).duties (cell (sendDev k c) (.own (.rcv k))) 0; rw [duties_eq]; exact Finset.mem_singleton_self _)
    () () (NC k) (NC_sl k _) (amount_eq m c (.own (.snd k)) 0) (amount_eq m (sendDev k c) (.own (.rcv k)) 0) (owedL c os) rfl (W := W)
    (by
      show _ ⊢ (Rd m).payload (cell c (.own (.snd k))) 0 0
      rw [payload_eq]; show _ ⊢ sndPay m c k
      unfold sndPay cmP; rw [if_neg (by rw [hk]; exact Bool.false_ne_true), hset, src_cs k c hk])
    (by
      show _ ⊢ (Rd m).payload (cell (sendDev k c) (.own (.rcv k))) 0 0
      rw [payload_eq]; show _ ⊢ cmP m (sendDev k c) k fullShare
      unfold cmP; rw [hset]
      exact Entails.of_eq (pointsTo_congr fun i hi => write_C m k c hk f hi))) $$ [Ht1 Ht2 Hd Hs HO]
  · isplitr; · iexact Hi1
    isplitr; · iexact Hi2
    rw [hset, ← src_cs k c hk]
    isplitl [Hs]; · iexact Hs
    isplitl [Hd]; · rw [src_cs k c hk]; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc Hat]
  · isplitl [Hc]; · iexact Hc
    iexact Hat
  iexists _; iexact HO

end Cert.KernelIdeal.Net

end
-- ==== Proof.Comp.lean ====
/- A piece's result: loaded, worked out, stored and sent on its way out. -/
module

public import proofs.«01_k».proof.Proof.Steps

@[expose] public section

noncomputable section

namespace Cert.KernelIdeal.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : MemT F)

variable (K : Dev nD × Cx → ℕ)

/-! ## A piece's result -/

/-- Reading the whole scale gives the scale. -/
theorem ga_read (c : Dev nD) : (Ga : Memref sig .tc .vmem S2048 .f32).view.readAt (Elt F)
    (Rect.unit (s := S2048) ![0] S2048.size inb_S2048_S2048_0).toLoadRect (gam m c) = gam m c :=
  Memref.readAt_unit_zero (Elt F) cc0_stg0_0 (funext fun a => by fin_cases a; rfl) _ _

/-- A piece's result, worked out and on its way out. -/
theorem comp_own (c : Dev nD) (k : Ck) (q : PosShare TreeShare) (rest : P F) (Q : PUnit → sProp 𝕄) :
    iprop(ctx m K ∗ loP m c ∗ gaP m c ∗ cmP m c k q ∗ cTok c k) ⊢ iprop(((loP m c ∗ gaP m c ∗ cmP m c k q ∗ waitC c (.out k)) -∗ WP c rest Q)
      -∗ WP c (step c (.comp k) rest) Q) := by
  unfold step cTok sgAny ouAny loP gaP cmP
  dsimp only
  iintro ⟨#Hctx, Hlo, Hga, Hcm, ⟨Hat, Ht, ⟨%g, Hsg⟩, ⟨%f, Hou⟩⟩⟩
  iintro Hk
  have hCm : (Cm.access (Rect.unit (s := S2048x2048) (ldOff k c) (SC (rows k)).size (ldOff_inb k c)) : View sig .tc _ _ _).set = cs k c :=
    Cm_set (ldOff_eq k c) _
  have hSg : (Sg.access (Rect.unit (s := S2048x2048) (ldOff k c) (SC (rows k)).size (ldOff_inb k c)) : View sig .tc _ _ _).set = cs k c :=
    Sg_set (ldOff_eq k c) _
  ihave #Hi := (ctx_inv m K c (.own (.out k))) $$ Hctx
  ihave #Hr := (ctx_reached m K c (.own (.out k))) $$ Hctx
  iapply (wp_load_rect 𝒱₀ (c : Thread nD τ) none Set.univ (m := Lo) (r := Rect.unit (s := S2048x2048) (ldOff k c) (SC (rows k)).size (ldOff_inb k c)) (Finset.subset_univ _)) $$ Hlo; iintro Hlo
  iapply (wp_load_rect 𝒱₀ (c : Thread nD τ) none Set.univ (m := Cm) (r := Rect.unit (s := S2048x2048) (ldOff k c) (SC (rows k)).size (ldOff_inb k c)) (hCm.subset)) $$ Hcm; iintro Hcm
  iapply (wp_load 𝒱₀ (c : Thread nD τ) none Set.univ (m := Ga) (Finset.subset_univ _)) $$ Hga; iintro Hga
  iapply (wp_load_rect 𝒱₀ (c : Thread nD τ) none Set.univ (m := Sg) (r := Rect.unit (s := S2048x2048) (ldOff k c) (SC (rows k)).size (ldOff_inb k c)) (hSg.subset)) $$ Hsg; iintro Hsg
  iapply (wp_store 𝒱₀ (c : Thread nD τ) none Set.univ (m := Sg) (Mk := Finset.univ) (hSg.subset)) $$ Hsg; iintro Hsg
  have hSgv : (sl Sg (rows k) (rowOff k c) (rowOff_inb k c)).view.set = cs k c := Sg_set (rowOff_eq k c) _
  have hOuv : (sl Ou (rows k) (rowOff k c) (rowOff_inb k c)).view.set = cs k c := Ou_set (rowOff_eq k c) _
  rw [ga_read]
  iapply (Rounds.wp_copy_pointsTo 𝒱₀ ER (Rd m) (c : Thread nD τ) none (κ := K (c, .own (.out k)))
    (src := sl Sg (rows k) (rowOff k c) (rowOff_inb k c)) (dst := sl Ou (rows k) (rowOff k c) (rowOff_inb k c)) (sem := .dma (outSem k))
    (q := fullShare) (fd := f) (r := 0) (d := 0)
    (fs := (Sg.access (Rect.unit (s := S2048x2048) (ldOff k c) (SC (rows k)).size (ldOff_inb k c)) : View sig .tc _ _ _).write (Elt F) g (pieceV m k c) Finset.univ)
    (by show (0 : Fin 3) ∈ (Rd m).duties (cell c (.own (.out k))) 0; rw [duties_eq]; exact Finset.mem_singleton_self _)
    () (NO k) (NO_sl k _) (amount_eq m c (.own (.out k)) 0)
    (by
      show _ ⊢ (Rd m).payload (cell c (.own (.out k))) 0 0
      rw [payload_eq]; show _ ⊢ iprop(ouP m c k ∗ sgAny c k)
      unfold ouP sgAny; rw [hSgv, hOuv]
      iintro ⟨H1, H2⟩
      isplitl [H1]
      · iapply (Entails.of_eq (pointsTo_congr fun i hi => write_out m k c f g hi)); iexact H1
      · iexists _; iexact H2)) $$ [Hsg Hou Ht]
  · isplitr; · iexact Hi
    rw [hSgv, hOuv]
    isplitl [Hsg]; · iexact Hsg
    isplitl [Hou]; · iexact Hou
    isplitl [Ht]; · iexact Ht
    iexact Hr
  iintro Hc
  iapply Hk
  isplitl [Hlo]; · iexact Hlo
  isplitl [Hga]; · iexact Hga
  isplitl [Hcm]; · iexact Hcm
  isplitl [Hc]; · iexact Hc
  iexact Hat

end Cert.KernelIdeal.Net

end
-- ==== Proof.Exec.lean ====
/- The commands run in order.

   A command takes some resources and leaves others; `exec` runs a list of commands on a list of resources and of
   pieces still to be sent, failing when a resource is not there, a piece is not next, or a wait is not below everything
   still owed. `run_sound`: what `exec` can run, the device can run. `plan`: `exec` can run the body. -/
module

public import proofs.«01_k».proof.Proof.Comp

@[expose] public section

noncomputable section

namespace Cert.KernelIdeal.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : MemT F)
variable (K : Dev nD × Cx → ℕ)

/-! ## Lists of resources -/

/-- What a command takes. -/
def pre : Cmd → List Res
  | .half => [.halfW]
  | .recv k => [.rW k]
  | .sendA k => [.sT k, .aP k]
  | .sendC k => [.sT k, .cm (src k) (slot k)]
  | .comp k => [.loc, .ga, .cm k 0, .cR k]
  | .finA k => [.sW k]
  | .finC k => [.sW k]
  | .out k => [.oW k]

/-- What it leaves. -/
def post : Cmd → List Res
  | .half => [.loc]
  | .recv k => [.rD k, .cm k 0, .cm k 1, .cm k 2]
  | .sendA k => [.sW k]
  | .sendC k => [.sW k]
  | .comp k => [.loc, .ga, .cm k 0, .oW k]
  | .finA k => [.sD k, .aP k]
  | .finC k => [.sD k, .cm (src k) (slot k)]
  | .out k => [.oD k]

/-- The next piece to be sent is that one. -/
def pop (k : Ck) : List Ck → Option (List Ck)
  | [] => none
  | k' :: os => if k' = k then some os else none

/-- What is still to be sent after it. -/
def ow : Cmd → List Ck → Option (List Ck)
  | .half, os => some os
  | .recv k, os => if os.all (fun j => decide (lvk k < lvk j)) then some os else none
  | .sendA k, os => if isA k then pop k os else none
  | .sendC k, os => if isA k then none else pop k os
  | .comp _, os => some os
  | .finA k, os => if isA k then some os else none
  | .finC k, os => if isA k then none else some os
  | .out _, os => some os

/-- Takes a list of resources out of another. -/
def take : List Res → List Res → Option (List Res)
  | [], S => some S
  | r :: rs, S => if r ∈ S then take rs (S.erase r) else none

/-- Runs one command. -/
def exec1 (a : Cmd) (p : List Res × List Ck) : Option (List Res × List Ck) :=
  match take (pre a) p.1, ow a p.2 with
  | some S, some os => some (post a ++ S, os)
  | _, _ => none

/-- Runs a list of commands. -/
def exec : List Cmd → List Res × List Ck → Option (List Res × List Ck)
  | [], p => some p
  | a :: l, p => (exec1 a p).bind (exec l)

/-- The resources of a list. -/
abbrev sepL (c : Dev nD) (S : List Res) : sProp 𝕄 := bigSepL S (ri m c)

/-- The first resource of a list, apart. -/
theorem sepL_cons (c : Dev nD) (r : Res) (S : List Res) : (sepL m c (r :: S) : sProp 𝕄) = iprop(ri m c r ∗ sepL m c S) := bigSepL_cons r S _

/-- The resources of two lists give those of the lists put together. -/
theorem sepL_append (c : Dev nD) (S T : List Res) : iprop(sepL m c S ∗ sepL m c T) ⊢ sepL m c (S ++ T) := by
  induction S with
  | nil => iintro ⟨-, H⟩; iexact H
  | cons r S ih =>
    rw [List.cons_append, sepL_cons, sepL_cons]
    iintro ⟨⟨Hr, HS⟩, HT⟩
    isplitl [Hr]; · iexact Hr
    iapply ih
    isplitl [HS] <;> iassumption

/-- The resources of two lists put together give those of each. -/
theorem sepL_append' (c : Dev nD) (S T : List Res) : sepL m c (S ++ T) ⊢ iprop(sepL m c S ∗ sepL m c T) := by
  induction S with
  | nil =>
    show sepL m c T ⊢ iprop(emp ∗ sepL m c T)
    iintro H
    isplitr; · iempintro
    iexact H
  | cons r S ih =>
    rw [List.cons_append, sepL_cons, sepL_cons]
    iintro ⟨Hr, H⟩
    ihave H' := ih $$ H
    icases H' with ⟨HS, HT⟩
    isplitl [Hr HS]
    · isplitl [Hr] <;> iassumption
    iexact HT

/-- One resource taken out of a list. -/
theorem sepL_erase (c : Dev nD) (r : Res) (S : List Res) (h : r ∈ S) : sepL m c S ⊢ iprop(ri m c r ∗ sepL m c (S.erase r)) := by
  induction S with
  | nil => exact absurd h List.not_mem_nil
  | cons a S ih =>
    by_cases e : a = r
    · subst e; rw [List.erase_cons_head, sepL_cons]
    · rw [List.erase_cons_tail (by simpa using e), sepL_cons, sepL_cons]
      have h' : r ∈ S := (List.mem_cons.mp h).resolve_left fun h => e h.symm
      iintro ⟨Ha, HS⟩
      ihave H := (ih h') $$ HS
      icases H with ⟨Hr, HS⟩
      isplitl [Hr]; · iexact Hr
      isplitl [Ha] <;> iassumption

/-- What is taken out is there. -/
theorem take_sound (c : Dev nD) : ∀ (rs S S' : List Res), take rs S = some S' → sepL m c S ⊢ iprop(sepL m c rs ∗ sepL m c S')
  | [], S, S', h => by
    cases h
    show sepL m c S ⊢ iprop(emp ∗ sepL m c S)
    iintro H
    isplitr; · iempintro
    iexact H
  | r :: rs, S, S', h => by
    unfold take at h
    split at h
    · next hr =>
      rw [sepL_cons]
      iintro H
      ihave H' := (sepL_erase m c r S hr) $$ H
      icases H' with ⟨Hr, HS⟩
      ihave H'' := (take_sound c rs _ _ h) $$ HS
      icases H'' with ⟨Hrs, HS⟩
      isplitl [Hr Hrs]
      · isplitl [Hr] <;> iassumption
      iexact HS
    · cases h

/-! ## One command -/

/-- A landed piece in three shares. -/
theorem cm_split (c : Dev nD) (k : Ck) : cmP m c k fullShare ⊢ iprop(cmP m c k (sh 0) ∗ cmP m c k (sh 1) ∗ cmP m c k (sh 2)) := by
  unfold cmP
  exact (pointsTo_share (PosShare.mem_left_op_right fullShare)).1.trans (sep_mono_right (pointsTo_share (PosShare.mem_left_op_right fullShare.right)).1)

/-- The three shares of a piece that has come, put together again. -/
theorem cm_join (c : Dev nD) (k : Ck) : iprop(cmP m c k (sh 0) ∗ cmP m c k (sh 1) ∗ cmP m c k (sh 2)) ⊢ cmP m c k fullShare := by
  unfold cmP
  exact (sep_mono_right (pointsTo_share (PosShare.mem_left_op_right fullShare.right)).2).trans (pointsTo_share (PosShare.mem_left_op_right fullShare)).2

/-- Every piece lies above zero. -/
theorem lvk_pos (k : Ck) : 0 < lvk k := by cases k <;> exact Nat.succ_pos _

/-- If taking a piece off the list of those to be sent leaves a list, the piece was its first. -/
theorem pop_eq {k : Ck} {os os' : List Ck} (h : pop k os = some os') : os = k :: os' := by
  cases os with
  | nil => cases h
  | cons k' t =>
    simp only [pop] at h
    split at h
    · next e => cases h; rw [e]
    · cases h

/-- One command: from the resources it takes to those it leaves. -/
theorem cmd_sound (c : Dev nD) (a : Cmd) (os os' : List Ck) (h : ow a os = some os') (rest : P F) (Q : PUnit → sProp 𝕄) :
    iprop(ctx m K ∗ sepL m c (pre a) ∗ owesE c os) ⊢ iprop(((sepL m c (post a) ∗ owesE c os') -∗ WP c rest Q) -∗ WP c (step c a rest) Q) := by
  cases a with
  | half =>
    cases h
    show iprop(ctx m K ∗ waitC c .cpy ∗ owesE c os) ⊢ iprop(((iprop(loP m c ∗ argH m c ∗ doneC c .cpy) ∗ owesE c os) -∗ WP c rest Q) -∗ WP c (step c (.half) rest) Q)
    iintro ⟨#Hctx, Hp, HO⟩
    iintro Hk
    iapply (wait_own m K c .cpy os (fun j _ => lvk_pos j) (sem := halfSem) rfl (a := half c) (b := Lo) rfl (fun _ => rest) Q) $$ [Hp HO]
    · isplitr; · iexact Hctx
      isplitl [Hp]; · iexact Hp
      iexact HO
    iintro ⟨Hd, Hpay, HO⟩
    iapply Hk
    isplitr [HO]
    · ihave Hpay' := (show pay m c (.own .cpy) 0 ⊢ iprop(loP m c ∗ argH m c) from Entails.refl _) $$ Hpay
      icases Hpay' with ⟨H1, H2⟩
      isplitl [H1]; · iexact H1
      isplitl [H2]; · iexact H2
      iexact Hd
    iexact HO
  | recv k =>
    dsimp only [ow] at h
    split at h
    · next hall =>
      cases h
      show iprop(ctx m K ∗ waitC c (.rcv k) ∗ owesE c os) ⊢ iprop(((iprop(doneC c (.rcv k) ∗ cmP m c k (sh 0) ∗ cmP m c k (sh 1) ∗ cmP m c k (sh 2)) ∗ owesE c os) -∗ WP c rest Q) -∗ WP c (step c (.recv k) rest) Q)
      iintro ⟨#Hctx, Hp, HO⟩
      iintro Hk
      iapply (wait_own m K c (.rcv k) os (fun j hj => of_decide_eq_true (List.all_eq_true.mp hall j hj)) (sem := recvSem k) rfl
        (a := sl Cm (rows k) (rowOff k c) (rowOff_inb k c)) (b := sl Cm (rows k) (rowOff k c) (rowOff_inb k c)) (NC_sl k _) (fun _ => rest) Q) $$ [Hp HO]
      · isplitr; · iexact Hctx
        isplitl [Hp]; · iexact Hp
        iexact HO
      iintro ⟨Hd, Hpay, HO⟩
      iapply Hk
      isplitr [HO]
      · isplitl [Hd]; · iexact Hd
        iapply (cm_split m c k)
        iapply (show pay m c (.own (.rcv k)) 0 ⊢ cmP m c k fullShare from Entails.refl _)
        iexact Hpay
      iexact HO
    · cases h
  | sendA k =>
    dsimp only [ow] at h
    split at h
    · next hk =>
      obtain rfl := pop_eq h
      show iprop(ctx m K ∗ iprop(sTok c k ∗ argP m c k) ∗ owesE c (k :: os')) ⊢ iprop(((waitC c (.snd k) ∗ owesE c os') -∗ WP c rest Q) -∗ WP c (step c (.sendA k) rest) Q)
      iintro ⟨#Hctx, Hp, HO⟩
      iintro Hk
      ihave Hp' := (show iprop(sTok c k ∗ argP m c k) ⊢ iprop(sTok c k ∗ argP m c k) from Entails.refl _) $$ Hp
      icases Hp' with ⟨H1, H2⟩
      iapply (send_A m K c k hk os' rest Q) $$ [H1 H2 HO]
      · isplitr; · iexact Hctx
        isplitl [H1]; · iexact H1
        isplitl [H2]; · iexact H2
        iexact HO
      iexact Hk
    · cases h
  | sendC k =>
    dsimp only [ow] at h
    split at h
    · cases h
    · next hk =>
      obtain rfl := pop_eq h
      show iprop(ctx m K ∗ iprop(sTok c k ∗ cmP m c (src k) (sh (slot k))) ∗ owesE c (k :: os')) ⊢ iprop(((waitC c (.snd k) ∗ owesE c os') -∗ WP c rest Q) -∗ WP c (step c (.sendC k) rest) Q)
      iintro ⟨#Hctx, Hp, HO⟩
      iintro Hk
      ihave Hp' := (show iprop(sTok c k ∗ cmP m c (src k) (sh (slot k))) ⊢ iprop(sTok c k ∗ cmP m c (src k) (sh (slot k))) from Entails.refl _) $$ Hp
      icases Hp' with ⟨H1, H2⟩
      iapply (send_C m K c k (Bool.eq_false_iff.mpr hk) os' rest Q) $$ [H1 H2 HO]
      · isplitr; · iexact Hctx
        isplitl [H1]; · iexact H1
        isplitl [H2]; · iexact H2
        iexact HO
      iexact Hk
  | comp k =>
    cases h
    show iprop(ctx m K ∗ iprop((loP m c ∗ argH m c ∗ doneC c .cpy) ∗ gaP m c ∗ cmP m c k (sh 0) ∗ cTok c k) ∗ owesE c os) ⊢ iprop(((iprop((loP m c ∗ argH m c ∗ doneC c .cpy) ∗ gaP m c ∗ cmP m c k (sh 0) ∗ waitC c (.out k)) ∗ owesE c os) -∗ WP c rest Q) -∗ WP c (step c (.comp k) rest) Q)
    iintro ⟨#Hctx, Hp, HO⟩
    iintro Hk
    ihave Hp' := (show iprop((loP m c ∗ argH m c ∗ doneC c .cpy) ∗ gaP m c ∗ cmP m c k (sh 0) ∗ cTok c k) ⊢ iprop((loP m c ∗ argH m c ∗ doneC c .cpy) ∗ gaP m c ∗ cmP m c k (sh 0) ∗ cTok c k) from Entails.refl _) $$ Hp
    icases Hp' with ⟨⟨H1, H2, H3⟩, H4, H5, H6⟩
    iapply (comp_own m K c k (sh 0) rest Q) $$ [H1 H4 H5 H6]
    · isplitr; · iexact Hctx
      isplitl [H1]; · iexact H1
      isplitl [H4]; · iexact H4
      isplitl [H5]; · iexact H5
      iexact H6
    iintro ⟨H1, H4, H5, H6⟩
    iapply Hk
    isplitr [HO]
    · isplitl [H1 H2 H3]
      · isplitl [H1]; · iexact H1
        isplitl [H2]; · iexact H2
        iexact H3
      isplitl [H4]; · iexact H4
      isplitl [H5]; · iexact H5
      iexact H6
    iexact HO
  | finA k =>
    dsimp only [ow] at h
    split at h
    · next hk =>
      cases h
      show iprop(ctx m K ∗ waitC c (.snd k) ∗ owesE c os) ⊢ iprop(((iprop(doneC c (.snd k) ∗ argP m c k) ∗ owesE c os) -∗ WP c rest Q) -∗ WP c (step c (.finA k) rest) Q)
      iintro ⟨#Hctx, Hp, HO⟩
      iintro Hk
      iapply (wait_own m K c (.snd k) os (fun j _ => lvk_pos j) (sem := sendSem k) rfl
        (a := sl Cm (rows k) (sOff k c) (sOff_inb k c)) (b := asl k c) (NC_asl k c) (fun _ => rest) Q) $$ [Hp HO]
      · isplitr; · iexact Hctx
        isplitl [Hp]; · iexact Hp
        iexact HO
      iintro ⟨Hd, Hpay, HO⟩
      iapply Hk
      isplitr [HO]
      · isplitl [Hd]; · iexact Hd
        iapply (show pay m c (.own (.snd k)) 0 ⊢ argP m c k from by show sndPay m c k ⊢ _; unfold sndPay; rw [if_pos hk])
        iexact Hpay
      iexact HO
    · cases h
  | finC k =>
    dsimp only [ow] at h
    split at h
    · cases h
    · next hk =>
      cases h
      show iprop(ctx m K ∗ waitC c (.snd k) ∗ owesE c os) ⊢ iprop(((iprop(doneC c (.snd k) ∗ cmP m c (src k) (sh (slot k))) ∗ owesE c os) -∗ WP c rest Q) -∗ WP c (step c (.finC k) rest) Q)
      iintro ⟨#Hctx, Hp, HO⟩
      iintro Hk
      iapply (wait_own m K c (.snd k) os (fun j _ => lvk_pos j) (sem := sendSem k) rfl
        (a := sl Cm (rows k) (sOff k c) (sOff_inb k c)) (b := sl Cm (rows k) (sOff k c) (sOff_inb k c)) (NC_sl k _) (fun _ => rest) Q) $$ [Hp HO]
      · isplitr; · iexact Hctx
        isplitl [Hp]; · iexact Hp
        iexact HO
      iintro ⟨Hd, Hpay, HO⟩
      iapply Hk
      isplitr [HO]
      · isplitl [Hd]; · iexact Hd
        iapply (show pay m c (.own (.snd k)) 0 ⊢ cmP m c (src k) (sh (slot k)) from by show sndPay m c k ⊢ _; unfold sndPay; rw [if_neg hk])
        iexact Hpay
      iexact HO
  | out k =>
    cases h
    show iprop(ctx m K ∗ waitC c (.out k) ∗ owesE c os) ⊢ iprop(((iprop(doneC c (.out k) ∗ ouP m c k ∗ sgAny c k) ∗ owesE c os) -∗ WP c rest Q) -∗ WP c (step c (.out k) rest) Q)
    iintro ⟨#Hctx, Hp, HO⟩
    iintro Hk
    iapply (wait_own m K c (.out k) os (fun j _ => lvk_pos j) (sem := outSem k) rfl
      (a := sl Sg (rows k) (rowOff k c) (rowOff_inb k c)) (b := sl Ou (rows k) (rowOff k c) (rowOff_inb k c)) (NO_sl k _) (fun _ => rest) Q) $$ [Hp HO]
    · isplitr; · iexact Hctx
      isplitl [Hp]; · iexact Hp
      iexact HO
    iintro ⟨Hd, Hpay, HO⟩
    iapply Hk
    isplitr [HO]
    · isplitl [Hd]; · iexact Hd
      iapply (show pay m c (.own (.out k)) 0 ⊢ iprop(ouP m c k ∗ sgAny c k) from Entails.refl _)
      iexact Hpay
    iexact HO

/-! ## A list of commands -/

/-- What `exec` can run, the device can run. -/
theorem run_sound (c : Dev nD) : ∀ (l : List Cmd) (S S' : List Res) (os os' : List Ck), exec l (S, os) = some (S', os') → ∀ Q : PUnit → sProp 𝕄,
    iprop(ctx m K ∗ sepL m c S ∗ owesE c os) ⊢ iprop(((sepL m c S' ∗ owesE c os') -∗ |={Set.univ}=> Q ⟨⟩) -∗ WP c (runL c l) Q)
  | [], S, S', os, os', h, Q => by
    cases h
    unfold runL WP
    rw [wp_ret]
    iintro ⟨-, H⟩
    iintro Hk
    iapply Hk
    iexact H
  | a :: l, S, S', os, os', h, Q => by
    unfold exec at h
    obtain ⟨⟨S₁, os₁⟩, h1, h2⟩ := Option.bind_eq_some_iff.mp h
    unfold exec1 at h1
    split at h1
    · next T os₂ ht ho =>
      cases h1
      unfold runL
      iintro ⟨#Hctx, HS, HO⟩
      iintro Hk
      ihave HS' := (take_sound m c (pre a) S T ht) $$ HS
      icases HS' with ⟨Hp, HT⟩
      iapply (cmd_sound m K c a os os₁ ho (runL c l) Q) $$ [Hp HO]
      · isplitr; · iexact Hctx
        isplitl [Hp]; · iexact Hp
        iexact HO
      iintro ⟨Hp, HO⟩
      iapply (run_sound c l (post a ++ T) S' os₁ os' h2 Q) $$ [Hp HT HO]
      · isplitr; · iexact Hctx
        isplitl [Hp HT]
        · iapply (sepL_append m c (post a) T)
          isplitl [Hp] <;> iassumption
        iexact HO
      iexact Hk
    · cases h1

/-! ## The body -/

/-- The order in which pieces are sent. -/
def sends : List Ck :=
  [.zq 0, .zq 1, .zq 2, .zq 3, .zd 0, .zd 1, .dR 0, .dL 0, .dR 1, .dL 1, .dR 2, .dL 2, .dR 3, .dL 3, .fL 0, .fL 1, .fR 0, .fR 1]

/-- The pieces sent from the operand. -/
def aList : List Ck := [.zq 0, .zq 1, .zq 2, .zq 3, .zd 0, .zd 1]

/-- What the commands start from. -/
def S₀ : List Res := [.halfW, .ga] ++ (Ck.all.map .rW ++ (Ck.all.map .sT ++ (Ck.all.map .cR ++ aList.map .aP)))
/-- What they end with. -/
def S₁ : List Res := [.loc, .ga] ++ (Ck.all.map .rD ++ (Ck.all.map .sD ++ (Ck.all.map .oD ++ (aList.map .aP
  ++ (Ck.all.map (.cm · 0) ++ (Ck.all.map (.cm · 1) ++ Ck.all.map (.cm · 2)))))))

set_option maxRecDepth 100000 in
/-- The body's commands can be run. -/
theorem plan : (exec cmds (S₀, sends)).bind (fun p => (take S₁ p.1).map fun r => (r, p.2)) = some ([], []) := by decide +kernel

/-- The device can run the body's commands. -/
theorem cmds_sound (c : Dev nD) (Q : PUnit → sProp 𝕄) :
    iprop(ctx m K ∗ sepL m c S₀ ∗ owesE c sends) ⊢ iprop(((sepL m c S₁ ∗ owesE c []) -∗ |={Set.univ}=> Q ⟨⟩) -∗ WP c (runL c cmds) Q) := by
  obtain ⟨⟨S, os⟩, h1, h2⟩ := Option.bind_eq_some_iff.mp plan
  obtain ⟨r, h3, h4⟩ := Option.map_eq_some_iff.mp h2
  obtain ⟨rfl, rfl⟩ := Prod.mk.inj h4
  iintro H
  iintro Hk
  iapply (run_sound m K c cmds S₀ S sends [] h1 Q) $$ H
  iintro ⟨HS, HO⟩
  iapply Hk
  ihave H' := (take_sound m c S₁ S [] h3) $$ HS
  icases H' with ⟨H', -⟩
  isplitl [H'] <;> iassumption

end Cert.KernelIdeal.Net

end
-- ==== Proof.Body.lean ====
/- The body of a device: its start, then its commands. -/
module

public import proofs.«01_k».proof.Proof.Exec

@[expose] public section

noncomputable section

namespace Cert.KernelIdeal.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : MemT F)
variable (K : Dev nD × Cx → ℕ)

/-! ## What a device starts from -/

/-- What it owes at the start: the barrier's three signals and the landings of the pieces it sends. -/
def O₀ (c : Dev nD) : CellTallies nD τ sig Unit :=
  ((owedL c sends + tallyAt (barC (nb 1 c)) () 1) + tallyAt (barC (nb 2 c)) () 1) + tallyAt (barC (nb 0 c)) () 1

/-- The signals it pays and where its own semaphores stand. -/
def lin (c : Dev nD) : sProp 𝕄 :=
  iprop(idleC c .cpy ∗ dutyTok ER (cpyC c) 0 0 ∗ atPos ER (barC c) 0 ∅ 0
    ∗ (dutyTok ER (barC (nb 0 c)) 0 0 ∗ dutyTok ER (barC (nb 2 c)) 0 1 ∗ dutyTok ER (barC (nb 1 c)) 0 2)
    ∗ (bigSep Finset.univ fun k => idleC c (.rcv k))
    ∗ (bigSep Finset.univ fun k => iprop(idleC c (.snd k) ∗ dutyTok ER (sndC c k) 0 0 ∗ dutyTok ER (rcvC (sendDev k c) k) 0 0))
    ∗ bigSep Finset.univ fun k => iprop(idleC c (.out k) ∗ dutyTok ER (outC c k) 0 0))

/-- The credit for what its neighbours owe it. -/
def crd (c : Dev nD) : sProp 𝕄 :=
  iprop(cred (tallyAt (barC c) () 3) ∗ bigSep Finset.univ fun k => cred (tallyAt (cell c (.own (.rcv k))) () (amt (.own (.rcv k)))))

/-- Its buffers, cut into pieces. -/
def bufs (c : Dev nD) : sProp 𝕄 :=
  iprop(argH m c ∗ (bigSep aList.toFinset fun k => argP m c k)
    ∗ (bigSep Finset.univ fun k => ouAny (F := F) c k) ∗ (bigSep Finset.univ fun k => sgAny (F := F) c k) ∗ (bigSep Finset.univ fun k => cmAny (F := F) c k)
    ∗ ∃ f : Buf (Elt F) ((c : Thread nD τ).loc cc0_scratch1), ((c : Thread nD τ).loc cc0_scratch1) ↦{fullShare} f)

/-! ## The barrier -/

/-- A resource for each of the three neighbours is three resources. -/
theorem sum_dirs (Φ : Fin 3 → sProp 𝕄) : bigSep Finset.univ Φ = iprop(Φ 0 ∗ Φ 1 ∗ Φ 2) := bigSep_univ_eq_bigSepL [0, 1, 2] (by decide) (by decide) Φ

/-- Pieces by the neighbour they go to. -/
theorem by_dir (Φ : Ck → sProp 𝕄) : bigSep Finset.univ Φ
    = iprop(bigSep (Finset.univ.filter fun k => dir k = 0) Φ ∗ bigSep (Finset.univ.filter fun k => dir k = 1) Φ ∗ bigSep (Finset.univ.filter fun k => dir k = 2) Φ) := by
  rw [← sum_dirs (fun j => bigSep (Finset.univ.filter fun k => dir k = j) Φ)]
  rw [bigSep_fiberwise Finset.univ dir Φ, show Finset.univ.image dir = Finset.univ by decide +kernel]

/-- What a device hands a neighbour at the barrier: its own rows that the neighbour fills. -/
theorem barPay_to (c : Dev nD) (j : Fin 3) :
    (barPay (F := F) (nb (opp j) c) j) = bigSep (Finset.univ.filter fun k => dir k = j) fun k => cmAny (F := F) c k := by
  unfold barPay
  refine bigSep_congr fun k hk => ?_
  have hd : dir k = j := (Finset.mem_filter.mp hk).2
  rw [sendDev_eq, hd]
  have := nb_opp (opp j) c
  rw [opp_opp] at this
  rw [this]

/-- One signal of the barrier. -/
theorem signal_one (c n : Dev nD) (j : Fin 3) (hn : n = nb (opp j) c) (O : CellTallies nD τ sig Unit) (W : Waits sig Unit)
    (rest : PUnit → P F) (Q : PUnit → sProp 𝕄) :
    iprop(ctx m K ∗ owes (c : Thread nD τ) (O + tallyAt (barC (nb (opp j) c)) () 1) W ∗ dutyTok ER (barC (nb (opp j) c)) 0 j
        ∗ bigSep (Finset.univ.filter fun k => dir k = j) fun k => cmAny (F := F) c k)
      ⊢ iprop((owes (c : Thread nD τ) O W -∗ WP c (rest ⟨⟩) Q) -∗ WP c (.op (.semSignal ((n : Dev nD), .tc) barS (1#32).toInt) rest) Q) := by
  subst hn
  iintro ⟨#Hctx, HO, Ht, Hp⟩
  iintro Hk
  ihave #Hi := (ctx_inv m K (nb (opp j) c) .bar) $$ Hctx
  ihave #Hr := (ctx_reached m K (nb (opp j) c) .bar) $$ Hctx
  iapply (Rounds.wp_signal 𝒱₀ ER (Rd m) (c : Thread nD τ) none (dst := (nb (opp j) c : Thread nD τ)) (κ := K (nb (opp j) c, .bar)) (r := 0) (d := j)
      (by show j ∈ (Rd m).duties (cell (nb (opp j) c) .bar) 0; rw [duties_eq]; exact Finset.mem_univ _)
      ((amount_eq m (nb (opp j) c) .bar j).trans (by decide)) () O rfl) $$ [HO Ht Hp]
  · isplitr; · iexact Hi
    isplitl [HO]; · iexact HO
    isplitl [Ht]; · iexact Ht
    isplitl [Hp]
    · iapply (show (barPay (F := F) (nb (opp j) c) j) ⊢ (Rd m).payload (barC (nb (opp j) c)) 0 j from
        Entails.of_eq (payload_eq m (nb (opp j) c) .bar j).symm)
      rw [barPay_to]; iexact Hp
    iexact Hr
  iexact Hk

/-- The barrier's wait. -/
theorem bar_wait (c : Dev nD) (rest : PUnit → P F) (Q : PUnit → sProp 𝕄) :
    iprop(ctx m K ∗ cred (tallyAt (barC c) () 3) ∗ atPos ER (barC c) 0 ∅ 0 ∗ owesE c sends)
      ⊢ iprop(((atPos ER (barC c) (0 + 1) ∅ 0 ∗ (bigSep Finset.univ fun k => cmAny (F := F) (sendDev k c) k) ∗ owesE c sends) -∗ WP c (rest ⟨⟩) Q)
        -∗ WP c (.op (.semWait barS (3#32).toInt) rest) Q) := by
  unfold owesE
  iintro ⟨#Hctx, Hc, Hat, ⟨%W, HO⟩⟩
  iintro Hk
  ihave #Hinv := (ctx_inv m K c .bar) $$ Hctx
  ihave #Hlev := (ctx_lev m K) $$ Hctx
  iapply (Rounds.wp_wait_rest_token 𝒱₀ ER (Rd m) (c : Thread nD τ) none (sm := .reg barS) (κ := K (c, .bar))
    (wpE_semWait_eq 𝒱₀ (c : Thread nD τ) none Set.univ) (Set.mem_univ _) () (O := owedL c sends) (W := W) (R := 0) (m := 0) (T := ∅)
    (by rw [show (Rd m).expect ((c : Thread nD τ), SemLoc.reg barS) 0 = 3 from expect_bar m c]; decide)) $$ [Hc HO Hat]
  · isplitr; · iexact Hinv
    isplitl [Hc]; · iexact Hc
    isplitl [HO]; · iexact HO
    isplitr; · iapply (mayWait_cell (F := F) c .bar sends (by decide)); iexact Hlev
    iexact Hat
  iintro ⟨HO, Hat, -, Hpay⟩
  iapply Hk
  isplitl [Hat]; · iexact Hat
  isplitl [Hpay]
  · rw [by_dir (fun k => cmAny (F := F) (sendDev k c) k)]
    iapply (Entails.of_eq ((rest_bar m c).trans (sum_dirs (F := F) fun j => barPay c j)))
    iexact Hpay
  iexists _; iexact HO

/-! ## Lists of resources as sums over pieces -/

/-- The resources of a list without repeats are those of its elements taken as a set. -/
theorem sepL_map (c : Dev nD) (f : Ck → Res) : ∀ l : List Ck, l.Nodup → (sepL m c (l.map f) : sProp 𝕄) = bigSep l.toFinset fun k => ri m c (f k)
  | [], _ => by rw [List.toFinset_nil, bigSep_empty]; rfl
  | k :: l, h => by
    rw [List.map_cons, sepL_cons, List.toFinset_cons, bigSep_insert (by rw [List.mem_toFinset]; exact (List.nodup_cons.mp h).1),
      sepL_map c f l (List.nodup_cons.mp h).2]
    rfl

/-- The list of the pieces has no piece twice. -/
theorem all_nodup : Ck.all.Nodup := by decide
/-- The list of the pieces has every piece. -/
theorem all_univ : Ck.all.toFinset = Finset.univ := by decide +kernel
/-- The list of the pieces sent from the operand has no piece twice. -/
theorem aList_nodup : aList.Nodup := by decide

/-- The resources of the list of all pieces are one for every piece. -/
theorem sepL_all (c : Dev nD) (f : Ck → Res) : (sepL m c (Ck.all.map f) : sProp 𝕄) = bigSep Finset.univ fun k => ri m c (f k) := by
  rw [sepL_map m c f _ all_nodup, all_univ]
/-- The resources of the list of pieces sent from the operand are one for each of them. -/
theorem sepL_aList (c : Dev nD) (f : Ck → Res) : (sepL m c (aList.map f) : sProp 𝕄) = bigSep aList.toFinset fun k => ri m c (f k) :=
  sepL_map m c f _ aList_nodup

/-- The commands' first resources. -/
theorem S₀_intro (c : Dev nD) :
    iprop(waitC c .cpy ∗ gaP m c ∗ (bigSep Finset.univ fun k => waitC (F := F) c (.rcv k)) ∗ (bigSep Finset.univ fun k => sTok (F := F) c k)
      ∗ (bigSep Finset.univ fun k => cTok (F := F) c k) ∗ (bigSep aList.toFinset fun k => argP m c k)) ⊢ sepL m c S₀ := by
  unfold S₀
  refine BIBase.Entails.trans ?_ (sepL_append m c _ _)
  rw [sepL_cons, sepL_cons]
  show _ ⊢ iprop((waitC c .cpy ∗ (gaP m c ∗ emp)) ∗ sepL m c (Ck.all.map .rW ++ (Ck.all.map .sT ++ (Ck.all.map .cR ++ aList.map .aP))))
  iintro ⟨H1, H2, H3, H4, H5, H6⟩
  isplitl [H1 H2]
  · isplitl [H1]; · iexact H1
    isplitl [H2]; · iexact H2
    iempintro
  iapply (sepL_append m c _ _)
  isplitl [H3]; · rw [sepL_all]; iexact H3
  iapply (sepL_append m c _ _)
  isplitl [H4]; · rw [sepL_all]; iexact H4
  iapply (sepL_append m c _ _)
  isplitl [H5]; · rw [sepL_all]; iexact H5
  rw [sepL_aList]; iexact H6

/-- The commands' last resources. -/
def fin1 (c : Dev nD) : sProp 𝕄 :=
  iprop((loP m c ∗ argH m c ∗ doneC c .cpy) ∗ gaP m c ∗ (bigSep Finset.univ fun k => doneC (F := F) c (.rcv k)) ∗ (bigSep Finset.univ fun k => doneC (F := F) c (.snd k))
      ∗ (bigSep Finset.univ fun k => iprop(doneC c (.out k) ∗ ouP m c k ∗ sgAny c k)) ∗ (bigSep aList.toFinset fun k => argP m c k)
      ∗ (bigSep Finset.univ fun k => cmP m c k (sh 0)) ∗ (bigSep Finset.univ fun k => cmP m c k (sh 1)) ∗ (bigSep Finset.univ fun k => cmP m c k (sh 2)))

/-- The resources left by the last command, sorted by kind. -/
theorem S₁_elim (c : Dev nD) : sepL m c S₁ ⊢ fin1 m c := by
  unfold S₁ fin1
  refine BIBase.Entails.trans (sepL_append' m c _ _) ?_
  rw [sepL_cons, sepL_cons]
  show iprop(((loP m c ∗ argH m c ∗ doneC c .cpy) ∗ (gaP m c ∗ emp)) ∗ sepL m c (Ck.all.map .rD ++ (Ck.all.map .sD ++ (Ck.all.map .oD ++ (aList.map .aP
    ++ (Ck.all.map (.cm · 0) ++ (Ck.all.map (.cm · 1) ++ Ck.all.map (.cm · 2)))))))) ⊢ _
  iintro ⟨⟨H1, H2, -⟩, H⟩
  isplitl [H1]; · iexact H1
  isplitl [H2]; · iexact H2
  icases (sepL_append' m c _ _) $$ H with ⟨H1, H⟩
  isplitl [H1]; · iapply (show sepL m c (Ck.all.map .rD) ⊢ (bigSep Finset.univ fun k => doneC (F := F) c (.rcv k)) from Entails.of_eq (sepL_all m c _)); iexact H1
  icases (sepL_append' m c _ _) $$ H with ⟨H1, H⟩
  isplitl [H1]; · iapply (show sepL m c (Ck.all.map .sD) ⊢ (bigSep Finset.univ fun k => doneC (F := F) c (.snd k)) from Entails.of_eq (sepL_all m c _)); iexact H1
  icases (sepL_append' m c _ _) $$ H with ⟨H1, H⟩
  isplitl [H1]; · iapply (show sepL m c (Ck.all.map .oD) ⊢ (bigSep Finset.univ fun k => iprop(doneC c (.out k) ∗ ouP m c k ∗ sgAny c k)) from Entails.of_eq (sepL_all m c _)); iexact H1
  icases (sepL_append' m c _ _) $$ H with ⟨H1, H⟩
  isplitl [H1]; · iapply (show sepL m c (aList.map .aP) ⊢ (bigSep aList.toFinset fun k => argP m c k) from Entails.of_eq (sepL_aList m c _)); iexact H1
  icases (sepL_append' m c _ _) $$ H with ⟨H1, H⟩
  isplitl [H1]; · iapply (show sepL m c (Ck.all.map (.cm · 0)) ⊢ (bigSep Finset.univ fun k => cmP m c k (sh 0)) from Entails.of_eq (sepL_all m c _)); iexact H1
  icases (sepL_append' m c _ _) $$ H with ⟨H1, H⟩
  isplitl [H1]; · iapply (show sepL m c (Ck.all.map (.cm · 1)) ⊢ (bigSep Finset.univ fun k => cmP m c k (sh 1)) from Entails.of_eq (sepL_all m c _)); iexact H1
  iapply (show sepL m c (Ck.all.map (.cm · 2)) ⊢ (bigSep Finset.univ fun k => cmP m c k (sh 2)) from Entails.of_eq (sepL_all m c _)); iexact H

/-! ## The body -/

/-- The copy of its own half. -/
theorem copy_half (c : Dev nD) (rest : PUnit → P F) (Q : PUnit → sProp 𝕄) :
    iprop(ctx m K ∗ argH m c ∗ (∃ f : Buf (Elt F) ((c : Thread nD τ).loc cc0_scratch1), ((c : Thread nD τ).loc cc0_scratch1) ↦{fullShare} f)
        ∗ dutyTok ER (cpyC c) 0 0)
      ⊢ iprop((cred (tallyAt (cell c (.own .cpy)) () (amt (.own .cpy))) -∗ WP c (rest ⟨⟩) Q) -∗
        WP c (.op (.enqueueDma (half c) (.here Lo) (.dma halfSem) ((View.wordExact_bits rfl).reshape _ _) (Memref.isWhole_whole cc0_scratch1).wordExact ⟨Or.inl rfl, trivial⟩) rest) Q) := by
  iintro ⟨#Hctx, Ha, ⟨%f, Hf⟩, Ht⟩
  iintro Hk
  ihave #Hi := (ctx_inv m K c (.own .cpy)) $$ Hctx
  ihave #Hr := (ctx_reached m K c (.own .cpy)) $$ Hctx
  have hset : (Lo : Memref sig .tc .vmem S2048x2048 .f32).view.set = Finset.univ := by simp only [Memref.view_whole, View.set_whole]
  iapply (Rounds.wp_copy_pointsTo 𝒱₀ ER (Rd m) (c : Thread nD τ) none (src := half c) (dst := Lo) (sem := .dma halfSem) (κ := K (c, .own .cpy))
    (q := fullShare) (fd := f) (r := 0) (d := 0) (fs := m ((c : Thread nD τ).loc main_arg0))
    (by show (0 : Fin 3) ∈ (Rd m).duties (cell c (.own .cpy)) 0; rw [duties_eq]; exact Finset.mem_singleton_self _)
    () NL rfl (amount_eq m c (.own .cpy) 0)
    (by
      show _ ⊢ (Rd m).payload (cell c (.own .cpy)) 0 0
      rw [payload_eq]; show _ ⊢ iprop(loP m c ∗ argH m c)
      rw [hset, half_write]
      exact BIBase.Entails.refl)) $$ [Ha Hf Ht]
  · isplitr; · iexact Hi
    isplitl [Ha]; · unfold argH; iexact Ha
    isplitl [Hf]; · rw [hset]; iexact Hf
    isplitl [Ht]; · iexact Ht
    iexact Hr
  iexact Hk

/-- The whole body. -/
theorem prog_sound (c : Dev nD) (W : Waits sig Unit) (Q : PUnit → sProp 𝕄) :
    iprop(ctx m K ∗ lin c ∗ crd c ∗ bufs m c ∗ gaP m c ∗ owes (c : Thread nD τ) (O₀ c) W)
      ⊢ iprop(((fin1 m c ∗ atPos ER (barC c) (0 + 1) ∅ 0 ∗ owesE c []) -∗ |={Set.univ}=> Q ⟨⟩) -∗ WP c prog Q) := by
  have hg : ∀ b : Dev nD → P F, (WP c (.op .deviceId b) Q) = WP c (b c) Q := fun b => wp_deviceId ..
  unfold prog lin crd bufs O₀
  rw [hg]
  iintro ⟨#Hctx, ⟨Hicp, Htcp, Hbat, ⟨Ht1, Ht2, Ht3⟩, Hir, His, Hio⟩, ⟨Hbc, Hcr⟩, ⟨Hah, Hap, Hou, Hsg, Hcm, Hlo⟩, Hga, HO⟩
  iintro Hk
  iapply (copy_half m K c) $$ [Hah Hlo Htcp]
  · isplitr; · iexact Hctx
    isplitl [Hah]; · iexact Hah
    isplitl [Hlo]; · iexact Hlo
    iexact Htcp
  iintro Hcc
  icases (Entails.of_eq (by_dir (fun k => cmAny (F := F) c k))) $$ Hcm with ⟨Hc0, Hc1, Hc2⟩
  iapply (signal_one m K c _ 0 (sig1_eq c)) $$ [HO Ht1 Hc0]
  · isplitr; · iexact Hctx
    isplitl [HO]; · iexact HO
    isplitl [Ht1]; · iexact Ht1
    iexact Hc0
  iintro HO
  iapply (signal_one m K c _ 1 (sig2_eq c)) $$ [HO Ht2 Hc1]
  · isplitr; · iexact Hctx
    isplitl [HO]; · iexact HO
    isplitl [Ht2]; · iexact Ht2
    iexact Hc1
  iintro HO
  iapply (signal_one m K c _ 2 (sig3_eq c)) $$ [HO Ht3 Hc2]
  · isplitr; · iexact Hctx
    isplitl [HO]; · iexact HO
    isplitl [Ht3]; · iexact Ht3
    iexact Hc2
  iintro HO
  iapply (bar_wait m K c) $$ [HO Hbc Hbat]
  · isplitr; · iexact Hctx
    isplitl [Hbc]; · iexact Hbc
    isplitl [Hbat]; · iexact Hbat
    unfold owesE; iexists W; iexact HO
  iintro ⟨Hbat, Hcm, HO⟩
  iapply (cmds_sound m K c Q) $$ [Hcc Hicp Hga Hir Hcr His Hcm Hio Hsg Hou Hap HO]
  · isplitr; · iexact Hctx
    isplitr [HO]
    · iapply (S₀_intro m c)
      isplitl [Hcc Hicp]
      · isplitl [Hcc]; · iexact Hcc
        iexact Hicp
      isplitl [Hga]; · iexact Hga
      isplitl [Hcr Hir]
      · rw [bigSep_sep']
        isplitl [Hcr]; · iexact Hcr
        iexact Hir
      isplitl [His Hcm]
      · iapply (show iprop((bigSep Finset.univ fun k => iprop(idleC c (.snd k) ∗ dutyTok ER (sndC c k) 0 0 ∗ dutyTok ER (rcvC (sendDev k c) k) 0 0))
            ∗ bigSep Finset.univ fun k => cmAny (F := F) (sendDev k c) k) ⊢ bigSep Finset.univ fun k => sTok (F := F) c k from by
          rw [← bigSep_sep']
          refine bigSep_mono fun k _ => ?_
          unfold sTok
          show iprop((idleC c (.snd k) ∗ dutyTok ER (sndC c k) 0 0 ∗ dutyTok ER (rcvC (sendDev k c) k) 0 0) ∗ cmAny (F := F) (sendDev k c) k) ⊢ _
          iintro ⟨⟨H1, H2, H3⟩, H4⟩
          isplitl [H1]; · iexact H1
          isplitl [H2]; · iexact H2
          isplitl [H3]; · iexact H3
          iexact H4)
        isplitl [His]; · iexact His
        iexact Hcm
      isplitl [Hio Hsg Hou]
      · iapply (show iprop((bigSep Finset.univ fun k => iprop(idleC c (.out k) ∗ dutyTok ER (outC c k) 0 0))
            ∗ (bigSep Finset.univ fun k => sgAny (F := F) c k) ∗ bigSep Finset.univ fun k => ouAny (F := F) c k) ⊢ bigSep Finset.univ fun k => cTok (F := F) c k from by
          rw [← bigSep_sep', ← bigSep_sep']
          refine bigSep_mono fun k _ => ?_
          unfold cTok
          show iprop((idleC c (.out k) ∗ dutyTok ER (outC c k) 0 0) ∗ sgAny (F := F) c k ∗ ouAny (F := F) c k) ⊢ _
          iintro ⟨⟨H1, H2⟩, H3, H4⟩
          isplitl [H1]; · iexact H1
          isplitl [H2]; · iexact H2
          isplitl [H3]; · iexact H3
          iexact H4)
        isplitl [Hio]; · iexact Hio
        isplitl [Hsg]; · iexact Hsg
        iexact Hou
      iexact Hap
    iexact HO
  iintro ⟨HS, HO⟩
  iapply Hk
  isplitl [HS]; · iapply (S₁_elim m c); iexact HS
  isplitl [Hbat]; · iexact Hbat
  iexact HO

end Cert.KernelIdeal.Net

end
-- ==== Proof.Bufs.lean ====
/- Buffers cut into the pieces, and put together again. -/
module

public import proofs.«01_k».proof.Proof.Body

@[expose] public section

noncomputable section

namespace Cert.KernelIdeal.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : MemT F)

/-! ## The operand -/

/-- Different elements of a half lie at different places of the block. -/
theorem hidx_inj (c : Dev nD) {i j : S2048x2048.Idx} (h : hidx c i = hidx c j) : i = j := by
  have h1 : 2048 * (c.val % 2) + (i 0).val = 2048 * (c.val % 2) + (j 0).val := congrArg (fun x : S1x4096x2048.Idx => (x 1).val) h
  have h2 : (i 1).val = (j 1).val := congrArg (fun x : S1x4096x2048.Idx => (x 2).val) h
  funext a
  apply Fin.ext
  match a with
  | ⟨0, _⟩ => exact Nat.add_left_cancel h1
  | ⟨1, _⟩ => exact h2

/-- A device's partner has the other `z`. -/
theorem partner_mod (c : Dev nD) : (partner c).val % 2 ≠ c.val % 2 := by revert c; decide

/-- A device's half and its partner's do not meet. -/
theorem hidx_ne (c : Dev nD) (i j : S2048x2048.Idx) : hidx c i ≠ hidx (partner c) j := fun h => by
  have h1 : 2048 * (c.val % 2) + (i 0).val = 2048 * ((partner c).val % 2) + (j 0).val := congrArg (fun x : S1x4096x2048.Idx => (x 1).val) h
  have h2 := partner_mod c
  have h3 : (i 0).val < 2048 := (i 0).isLt
  have h4 : (j 0).val < 2048 := (j 0).isLt
  omega

/-- A piece of that list is sent from the operand. -/
theorem isA_aList {k : Ck} (h : k ∈ aList.toFinset) : isA k = true := by revert k; decide +kernel
/-- A piece of that list is sent to the partner. -/
theorem sendDev_aList {k : Ck} (h : k ∈ aList.toFinset) (c : Dev nD) : sendDev k c = partner c := by revert k c; decide +kernel

/-- An element of a piece of the operand lies in the partner's half, at the piece's rows. -/
theorem asl_mem (c : Dev nD) {k : Ck} (h : k ∈ aList.toFinset) {i : S1x4096x2048.Idx} (hi : i ∈ (asl k c).view.set) :
    ∃ j ∈ cs k (partner c), i = hidx (partner c) j := by
  obtain ⟨x, -, rfl⟩ := Finset.mem_map.mp hi
  refine ⟨(sl Cm (rows k) (sOff k c) (sOff_inb k c)).view.emb x, ?_, ?_⟩
  · rw [← sendDev_aList h c]
    exact (Finset.ext_iff.mp (Cm_set (sOff_eq k c) (sOff_inb k c)) _).mp (Finset.mem_map_of_mem _ (Finset.mem_univ _))
  · rw [← sendDev_aList h c]; exact asl_emb k c (isA_aList h) x

/-- What is read as a device's own half lies in it. -/
theorem half_mem (c : Dev nD) {i : S1x4096x2048.Idx} (hi : i ∈ (half c).view.set) : ∃ j, i = hidx c j := by
  obtain ⟨x, -, rfl⟩ := Finset.mem_map.mp hi
  exact ⟨x, half_emb c x⟩

/-- The elements of the operand that are sent. -/
def aSet (c : Dev nD) : Finset S1x4096x2048.Idx := aList.toFinset.biUnion fun k => (asl k c).view.set

/-- The rows of different pieces sent from the operand do not meet. -/
theorem asl_disjoint (c : Dev nD) : ∀ k ∈ aList.toFinset, ∀ k' ∈ aList.toFinset, k ≠ k' → Disjoint (asl k c).view.set (asl k' c).view.set := by
  intro k hk k' hk' hne
  rw [Finset.disjoint_left]
  intro i hi hi'
  obtain ⟨j, hj, rfl⟩ := asl_mem c hk hi
  obtain ⟨j', hj', e⟩ := asl_mem c hk' hi'
  rw [← hidx_inj _ e] at hj'
  exact Finset.disjoint_left.mp (cs_disjoint (partner c) hne) hj hj'

/-- Nor do they meet the half that the device keeps. -/
theorem half_disjoint (c : Dev nD) : Disjoint (half c).view.set (aSet c) := by
  rw [Finset.disjoint_left]
  intro i hi hi'
  obtain ⟨j, rfl⟩ := half_mem c hi
  obtain ⟨k, hk, hi'⟩ := Finset.mem_biUnion.mp hi'
  obtain ⟨j', -, e⟩ := asl_mem c hk hi'
  exact hidx_ne c j j' e

/-- The rest of the operand. -/
def argR (c : Dev nD) : sProp 𝕄 :=
  ((c : Thread nD τ).loc main_arg0) ↦[Finset.univ \ ((half c).view.set ∪ aSet c)]{fullShare} (m ((c : Thread nD τ).loc main_arg0))

/-- The operand cut. -/
theorem arg_cut (c : Dev nD) : (((c : Thread nD τ).loc main_arg0) ↦{fullShare} (m ((c : Thread nD τ).loc main_arg0)) : sProp 𝕄)
    ⊣⊢ iprop((argH m c ∗ bigSep aList.toFinset fun k => argP m c k) ∗ argR m c) := by
  have e1 := pointsTo_split_subset (Ix := Unit) (Name := ℕ) (U := UU) (Lvl := ℕ) (q := fullShare) (f := m ((c : Thread nD τ).loc main_arg0))
    (Finset.subset_univ ((half c).view.set ∪ aSet c))
  have e2 := pointsTo_union (Ix := Unit) (Name := ℕ) (U := UU) (Lvl := ℕ) (ℓ := (c : Thread nD τ).loc main_arg0) (q := fullShare)
    (f := m ((c : Thread nD τ).loc main_arg0)) (half_disjoint c)
  have e3 := pointsTo_biUnion (Ix := Unit) (Name := ℕ) (U := UU) (Lvl := ℕ) (ℓ := (c : Thread nD τ).loc main_arg0) (q := fullShare)
    (f := m ((c : Thread nD τ).loc main_arg0)) aList.toFinset (fun k => (asl k c).view.set) (asl_disjoint c)
  refine e1.trans ?_
  have e4 := BI.equiv_iff.mp ⟨e2.1, e2.2⟩
  unfold argR argH argP
  rw [e4]
  unfold aSet
  rw [e3]

/-! ## The buffers of pieces -/

/-- A buffer of pieces cut, each piece at anything. -/
theorem cut_any (c : Dev nD) (ℓ : Loc nD τ sig) (S : Ck → Finset (Idx ℓ)) (hd : ∀ k k', k ≠ k' → Disjoint (S k) (S k'))
    (hc : Finset.univ.biUnion S = Finset.univ) (f : Buf (Elt F) ℓ) :
    (ℓ ↦{fullShare} f : sProp 𝕄) ⊢ bigSep Finset.univ fun k => iprop(∃ g : Buf (Elt F) ℓ, ℓ ↦[S k]{fullShare} g) := by
  rw [← hc, pointsTo_biUnion _ _ fun k _ k' _ => hd k k']
  refine bigSep_mono fun k _ => ?_
  show iprop(ℓ ↦[S k]{fullShare} f) ⊢ iprop(∃ g : Buf (Elt F) ℓ, ℓ ↦[S k]{fullShare} g)
  iintro H
  iexists f; iexact H

/-- Pieces at one content, together. -/
theorem join_eq (ℓ : Loc nD τ sig) (S : Ck → Finset (Idx ℓ)) (hd : ∀ k k', k ≠ k' → Disjoint (S k) (S k'))
    (hc : Finset.univ.biUnion S = Finset.univ) (f : Buf (Elt F) ℓ) :
    (bigSep Finset.univ fun k => ℓ ↦[S k]{fullShare} f) = (ℓ ↦{fullShare} f : sProp 𝕄) := by
  rw [← pointsTo_biUnion _ _ fun k _ k' _ => hd k k', hc]

/-- Pieces each at anything, together. -/
theorem join_any (ℓ : Loc nD τ sig) (f₀ : Buf (Elt F) ℓ) (S : Ck → Finset (Idx ℓ)) (hd : ∀ k k', k ≠ k' → Disjoint (S k) (S k'))
    (hc : Finset.univ.biUnion S = Finset.univ) :
    (bigSep Finset.univ fun k => iprop(∃ g : Buf (Elt F) ℓ, ℓ ↦[S k]{fullShare} g)) ⊢ (iprop(∃ g : Buf (Elt F) ℓ, ℓ ↦{fullShare} g) : sProp 𝕄) := by
  haveI : Nonempty (Buf (Elt F) ℓ) := ⟨f₀⟩
  refine BIBase.Entails.trans (BI.bigSep_exists_pi Finset.univ fun (k : Ck) (g : Buf (Elt F) ℓ) => (ℓ ↦[S k]{fullShare} g : sProp 𝕄)) ?_
  show iprop(∃ y : (k : Ck) → Buf (Elt F) ℓ, bigSep Finset.univ fun k => ℓ ↦[S k]{fullShare} y k) ⊢ iprop(∃ g : Buf (Elt F) ℓ, ℓ ↦{fullShare} g)
  iintro ⟨%y, H⟩
  icases (pointsTo_biUnion_join Finset.univ S y f₀ fun k _ k' _ => hd k k') $$ H with ⟨%g, -, H⟩
  iexists g
  rw [hc]
  iexact H

/-- The buffer of received pieces, cut. -/
theorem cm_cut (c : Dev nD) : iprop(∃ f : Buf (Elt F) ((c : Thread nD τ).loc cc0_scratch0), ((c : Thread nD τ).loc cc0_scratch0) ↦{fullShare} f)
    ⊢ (bigSep Finset.univ fun k => cmAny (F := F) c k : sProp 𝕄) := by
  iintro ⟨%f, H⟩
  iapply (cut_any c ((c : Thread nD τ).loc cc0_scratch0) (fun k => cs k c) (fun k k' h => cs_disjoint c h) (cs_cover c) f)
  iexact H
/-- The buffer of results, cut. -/
theorem sg_cut (c : Dev nD) : iprop(∃ f : Buf (Elt F) ((c : Thread nD τ).loc cc0_scratch2), ((c : Thread nD τ).loc cc0_scratch2) ↦{fullShare} f)
    ⊢ (bigSep Finset.univ fun k => sgAny (F := F) c k : sProp 𝕄) := by
  iintro ⟨%f, H⟩
  iapply (cut_any c ((c : Thread nD τ).loc cc0_scratch2) (fun k => cs k c) (fun k k' h => cs_disjoint c h) (cs_cover c) f)
  iexact H
/-- The result, cut. -/
theorem ou_cut (c : Dev nD) (f : Buf (Elt F) ((c : Thread nD τ).loc main_v1)) : (((c : Thread nD τ).loc main_v1) ↦{fullShare} f)
    ⊢ (bigSep Finset.univ fun k => ouAny (F := F) c k : sProp 𝕄) :=
  cut_any c ((c : Thread nD τ).loc main_v1) (fun k => cs k c) (fun k k' h => cs_disjoint c h) (cs_cover c) f

/-- The buffer of received pieces, whole again. -/
theorem cm_back (c : Dev nD) : iprop((bigSep Finset.univ fun k => cmP m c k (sh 0)) ∗ (bigSep Finset.univ fun k => cmP m c k (sh 1)) ∗ (bigSep Finset.univ fun k => cmP m c k (sh 2)))
    ⊢ (iprop(∃ f : Buf (Elt F) ((c : Thread nD τ).loc cc0_scratch0), ((c : Thread nD τ).loc cc0_scratch0) ↦{fullShare} f) : sProp 𝕄) := by
  rw [← bigSep_sep', ← bigSep_sep']
  refine BIBase.Entails.trans (bigSep_mono fun k _ => cm_join m c k) ?_
  show (bigSep Finset.univ fun k => cmP m c k fullShare) ⊢ iprop(∃ f : Buf (Elt F) ((c : Thread nD τ).loc cc0_scratch0), ((c : Thread nD τ).loc cc0_scratch0) ↦{fullShare} f)
  iintro H
  iexists (Lc m c)
  iapply (Entails.of_eq (join_eq ((c : Thread nD τ).loc cc0_scratch0) (fun k => cs k c) (fun k k' h => cs_disjoint c h) (cs_cover c) (Lc m c)))
  unfold cmP
  iexact H
/-- The buffer of results, whole again. -/
theorem sg_back (m : MemT F) (c : Dev nD) : (bigSep Finset.univ fun k => sgAny (F := F) c k)
    ⊢ (iprop(∃ f : Buf (Elt F) ((c : Thread nD τ).loc cc0_scratch2), ((c : Thread nD τ).loc cc0_scratch2) ↦{fullShare} f) : sProp 𝕄) :=
  join_any ((c : Thread nD τ).loc cc0_scratch2) (m ((c : Thread nD τ).loc cc0_scratch2)) (fun k => cs k c) (fun k k' h => cs_disjoint c h) (cs_cover c)
/-- The result, whole. -/
theorem ou_back (c : Dev nD) : (bigSep Finset.univ fun k => ouP m c k) = (((c : Thread nD τ).loc main_v1) ↦{fullShare} (Vc m c) : sProp 𝕄) :=
  join_eq ((c : Thread nD τ).loc main_v1) (fun k => cs k c) (fun k k' h => cs_disjoint c h) (cs_cover c) (Vc m c)

/-! ## The end of the body -/

variable (K : Dev nD × Cx → ℕ)

/-- A semaphore that was waited for is out for good. -/
theorem close_cell (c : Dev nD) (x : Cx) : iprop(ctx m K ∗ atPos ER (cell c x) (0 + 1) ∅ 0) ⊢ (|={Set.univ}=> semVal (cell c x) 0 : sProp 𝕄) := by
  iintro ⟨#Hctx, Hat⟩
  ihave #Hi := (ctx_inv m K c x) $$ Hctx
  iapply (Rounds.cell_close ER (Rd m) (Set.mem_univ (K (c, x))) (fun h => h) (R := 0 + 1) (duties_later m (cell c x)))
  isplitr; · iexact Hi
  iexact Hat

/-- A family of them. -/
theorem close_all (c : Dev nD) (f : Ck → Ox) : iprop(ctx m K ∗ bigSep Finset.univ fun k => doneC (F := F) c (f k))
    ⊢ (|={Set.univ}=> bigSep Finset.univ fun k => semVal (cell c (.own (f k))) 0 : sProp 𝕄) := by
  refine BIBase.Entails.trans ?_ (BIBase.Entails.trans (bigSep_mono (Ψ := fun k => iprop(|={Set.univ}=> semVal (cell c (.own (f k))) 0)) fun k _ => close_cell m K c (.own (f k))) (bigSep_fupd _ _))
  rw [bigSep_sep']
  show iprop(ctx m K ∗ bigSep Finset.univ fun k => doneC (F := F) c (f k)) ⊢ iprop((bigSep Finset.univ fun _ : Ck => ctx m K) ∗ bigSep Finset.univ fun k => doneC (F := F) c (f k))
  iintro ⟨#Hctx, H⟩
  isplitr
  · iapply (BI.bigSep_of_persistent Finset.univ (ctx m K))
    iexact Hctx
  iexact H

/-- All of a device's own semaphores, by kind. -/
theorem own_split (Φ : Ox → sProp 𝕄) : bigSep Finset.univ Φ
    = iprop(Φ .cpy ∗ (bigSep Finset.univ fun k => Φ (.rcv k)) ∗ (bigSep Finset.univ fun k => Φ (.snd k)) ∗ bigSep Finset.univ fun k => Φ (.out k)) := by
  have e : (Finset.univ : Finset Ox) = insert .cpy (Finset.univ.map ⟨Ox.rcv, fun a b h => by injection h⟩
      ∪ (Finset.univ.map ⟨Ox.snd, fun a b h => by injection h⟩ ∪ Finset.univ.map ⟨Ox.out, fun a b h => by injection h⟩)) := by
    ext x
    simp only [Finset.mem_univ, true_iff, Finset.mem_insert, Finset.mem_union, Finset.mem_map, true_and]
    cases x with
    | cpy => exact Or.inl rfl
    | rcv k => exact Or.inr (Or.inl ⟨k, rfl⟩)
    | snd k => exact Or.inr (Or.inr (Or.inl ⟨k, rfl⟩))
    | out k => exact Or.inr (Or.inr (Or.inr ⟨k, rfl⟩))
  rw [e, bigSep_insert (by simp), bigSep_union (by simp [Finset.disjoint_left]), bigSep_union (by simp [Finset.disjoint_left]), bigSep_map, bigSep_map, bigSep_map]
  rfl

/-- What a device is left with. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (bigSep Finset.univ fun x : Ox => semVal (cell c (.own x)) 0) ∗ semVal (barC c) 0
    ∗ (((c : Thread nD τ).loc main_arg0) ↦{fullShare} (m ((c : Thread nD τ).loc main_arg0)))
    ∗ (((c : Thread nD τ).loc main_v1) ↦{fullShare} (Vc m c)))

/-- From what is left at the end and the rest of the operand: every semaphore at zero, the operand, the buffers and the result. -/
theorem fin1_out (c : Dev nD) : iprop(ctx m K ∗ fin1 m c ∗ atPos ER (barC c) (0 + 1) ∅ 0 ∗ argR m c)
    ⊢ (|={Set.univ}=> iprop(gaP m c ∗ Φ₁ m c) : sProp 𝕄) := by
  unfold fin1
  iintro ⟨#Hctx, ⟨⟨Hlo, Hah, Hd⟩, Hga, Hr, Hs, Ho, Hap, H0, H1, H2⟩, Hb, HR⟩
  icases (show (bigSep Finset.univ fun k => iprop(doneC c (.out k) ∗ ouP m c k ∗ sgAny c k))
      ⊢ iprop((bigSep Finset.univ fun k => doneC (F := F) c (.out k)) ∗ (bigSep Finset.univ fun k => ouP m c k) ∗ bigSep Finset.univ fun k => sgAny (F := F) c k) from by
    rw [bigSep_sep', bigSep_sep']) $$ Ho with ⟨Ho, Hou, Hsg⟩
  imod (close_cell m K c .bar) $$ [Hb] with Zb
  · isplitr; · iexact Hctx
    iexact Hb
  imod (close_cell m K c (.own .cpy)) $$ [Hd] with Zd
  · isplitr; · iexact Hctx
    iexact Hd
  imod (close_all m K c .rcv) $$ [Hr] with Zr
  · isplitr; · iexact Hctx
    iexact Hr
  imod (close_all m K c .snd) $$ [Hs] with Zs
  · isplitr; · iexact Hctx
    iexact Hs
  imod (close_all m K c .out) $$ [Ho] with Zo
  · isplitr; · iexact Hctx
    iexact Ho
  imodintro
  isplitl [Hga]; · iexact Hga
  unfold Φ₁
  isplitl [H0 H1 H2]
  · iapply (cm_back m c)
    isplitl [H0]; · iexact H0
    isplitl [H1]; · iexact H1
    iexact H2
  isplitl [Hlo]; · unfold loP; iexists _; iexact Hlo
  isplitl [Hsg]; · iapply (sg_back m c); iexact Hsg
  isplitl [Zd Zr Zs Zo]
  · rw [own_split]
    isplitl [Zd]; · iexact Zd
    isplitl [Zr]; · iexact Zr
    isplitl [Zs]; · iexact Zs
    iexact Zo
  isplitl [Zb]; · iexact Zb
  isplitl [Hah Hap HR]
  · iapply (arg_cut m c).2
    isplitl [Hah Hap]
    · isplitl [Hah]; · iexact Hah
      iexact Hap
    iexact HR
  iapply (Entails.of_eq (ou_back m c)); iexact Hou

end Cert.KernelIdeal.Net

end
-- ==== Proof.Start.lean ====
/- What the launch deals: the cells, the signals to be paid, and the credit. -/
module

public import proofs.«01_k».proof.Proof.Bufs

@[expose] public section

noncomputable section

namespace Cert.KernelIdeal.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : MemT F)

/-! ## Cells and signals -/

/-- Different devices or semaphores, different cells. -/
theorem cell_inj {c c' : Dev nD} {x x' : Cx} (h : cell c x = cell c' x') : c = c' ∧ x = x' :=
  ⟨congrArg (fun g : GSem nD τ sig => g.1.1) h, csem_inj (congrArg Prod.snd h)⟩

/-- All the cells. -/
def theCells : Finset (GSem nD τ sig) :=
  Finset.univ.map ⟨fun p : Dev nD × Cx => cell p.1 p.2, fun _ _ h => Prod.ext (cell_inj h).1 (cell_inj h).2⟩

/-- A signal: the barrier's from one of three neighbours, or the one signal of an own semaphore. -/
def sigOf : Fin 3 ⊕ Ox → Cx × Fin 3
  | .inl j => (.bar, j)
  | .inr x => (.own x, 0)

/-- Two signals with the same semaphore and the same number are the same signal. -/
theorem sigOf_inj : Function.Injective sigOf := by
  rintro (j | x) (j' | x') h
  · exact congrArg Sum.inl (congrArg Prod.snd h)
  · exact absurd (congrArg Prod.fst h) (fun e => by injection e)
  · exact absurd (congrArg Prod.fst h) (fun e => by injection e)
  · refine congrArg Sum.inr ?_
    have e := congrArg Prod.fst h
    injection e

/-- All the signals. -/
def theToks : Finset (GSem nD τ sig × ℕ × Fin 3) :=
  Finset.univ.map ⟨fun p : Dev nD × (Fin 3 ⊕ Ox) => (cell p.1 (sigOf p.2).1, 0, (sigOf p.2).2), fun p q h => by
    have h1 := cell_inj (congrArg Prod.fst h)
    have h2 : (sigOf p.2).2 = (sigOf q.2).2 := congrArg (fun t : GSem nD τ sig × ℕ × Fin 3 => t.2.2) h
    exact Prod.ext h1.1 (sigOf_inj (Prod.ext h1.2 h2))⟩

/-- The signals of a device's own cells. -/
def toks (c : Dev nD) : sProp 𝕄 :=
  iprop((dutyTok ER (barC c) 0 0 ∗ dutyTok ER (barC c) 0 1 ∗ dutyTok ER (barC c) 0 2)
    ∗ dutyTok ER (cpyC c) 0 0 ∗ (bigSep Finset.univ fun k => dutyTok ER (rcvC c k) 0 0)
    ∗ (bigSep Finset.univ fun k => dutyTok ER (sndC c k) 0 0) ∗ bigSep Finset.univ fun k => dutyTok ER (outC c k) 0 0)

/-- The signals it pays. -/
def paid (c : Dev nD) : sProp 𝕄 :=
  iprop((dutyTok ER (barC (nb 0 c)) 0 0 ∗ dutyTok ER (barC (nb 2 c)) 0 1 ∗ dutyTok ER (barC (nb 1 c)) 0 2)
    ∗ dutyTok ER (cpyC c) 0 0 ∗ (bigSep Finset.univ fun k => dutyTok ER (rcvC (sendDev k c) k) 0 0)
    ∗ (bigSep Finset.univ fun k => dutyTok ER (sndC c k) 0 0) ∗ bigSep Finset.univ fun k => dutyTok ER (outC c k) 0 0)

/-- A resource for every cell is a resource for every device and semaphore. -/
theorem cells_by_dev (Φ : GSem nD τ sig → sProp 𝕄) :
    bigSep theCells Φ = bigSep Finset.univ fun c : Dev nD => bigSep Finset.univ fun x : Cx => Φ (cell c x) := by
  unfold theCells; rw [bigSep_map, bigSep_univ_prod]; rfl

/-- The right to give every signal, sorted by the device that is signalled. -/
theorem toks_by_dev : bigSep theToks (fun t => (dutyTok ER t.1 t.2.1 t.2.2 : sProp 𝕄)) = bigSep Finset.univ fun c : Dev nD => toks c := by
  unfold theToks; rw [bigSep_map, bigSep_univ_prod]
  refine bigSep_congr fun c _ => ?_
  rw [BI.bigSep_univ_sum, sum_dirs, own_split]
  rfl

/-- Around the neighbours. -/
theorem toks_paid : (bigSep Finset.univ fun c : Dev nD => (toks c : sProp 𝕄)) ⊢ bigSep Finset.univ fun c : Dev nD => paid c := by
  have hr : (bigSep Finset.univ fun c : Dev nD => bigSep Finset.univ fun k : Ck => (dutyTok ER (rcvC c k) 0 0 : sProp 𝕄))
      = bigSep Finset.univ fun c : Dev nD => bigSep Finset.univ fun k : Ck => dutyTok ER (rcvC (sendDev k c) k) 0 0 := by
    rw [bigSep_univ_comm, bigSep_univ_comm (fun (c : Dev nD) (k : Ck) => (dutyTok ER (rcvC (sendDev k c) k) 0 0 : sProp 𝕄))]
    refine bigSep_congr fun k _ => ?_
    rw [bigSep_univ_equiv (nbEquiv (dir k))]
    refine bigSep_congr fun c _ => ?_
    rw [sendDev_eq]; rfl
  unfold toks paid
  simp only [bigSep_sep']
  rw [hr, bigSep_univ_equiv (nbEquiv 0) (fun c : Dev nD => (dutyTok ER (barC c) 0 0 : sProp 𝕄)),
    bigSep_univ_equiv (nbEquiv 2) (fun c : Dev nD => (dutyTok ER (barC c) 0 1 : sProp 𝕄)),
    bigSep_univ_equiv (nbEquiv 1) (fun c : Dev nD => (dutyTok ER (barC c) 0 2 : sProp 𝕄))]
  exact BIBase.Entails.refl

/-- The barrier's cell and the own ones. -/
theorem cx_split (Φ : Cx → sProp 𝕄) : bigSep Finset.univ Φ = iprop(Φ .bar ∗ bigSep Finset.univ fun x => Φ (.own x)) := by
  have e : (Finset.univ : Finset Cx) = insert .bar (Finset.univ.map ⟨Cx.own, fun a b h => by injection h⟩) := by
    ext x
    simp only [Finset.mem_univ, true_iff, Finset.mem_insert, Finset.mem_map, true_and]
    cases x with
    | bar => exact Or.inl rfl
    | own x => exact Or.inr ⟨x, rfl⟩
  rw [e, bigSep_insert (by simp), bigSep_map]
  rfl

/-- What a device is dealt of the cells. -/
def G (c : Dev nD) : sProp 𝕄 :=
  iprop((bigSep Finset.univ fun x : Cx => roundState ER (Rd m) (cell c x) 0)
    ∗ ((bigSep Finset.univ fun x : Cx => atPos ER (cell c x) 0 ∅ 0) ∗ bigSep Finset.univ fun x : Cx => reached ER (cell c x) 0) ∗ toks c)

/-- What it starts from. -/
def G' (c : Dev nD) : sProp 𝕄 := iprop(∃ K, records m K ∗ lin c)

/-- The launch's resources of the cells. -/
def uR : UB := initOf theCells theToks

/-- The launch's tokens and positions, dealt out to the devices. -/
theorem deal : BI.own (ER uR) ⊢ (|==> bigSep Finset.univ (G m) : sProp 𝕄) := by
  unfold uR
  iintro HX
  imod (Rounds.fund ER (Rd m) theCells theToks) $$ HX with ⟨Hst, Hr, Hat, Htok⟩
  imodintro
  ihave Hst' := (Entails.of_eq (cells_by_dev fun g => roundState ER (Rd m) g 0)) $$ Hst
  ihave Hat' := (Entails.of_eq (cells_by_dev (F := F) fun g => atPos ER g 0 ∅ 0)) $$ Hat
  ihave Hr' := (Entails.of_eq (cells_by_dev (F := F) fun g => reached ER g 0)) $$ Hr
  ihave Htok' := (Entails.of_eq (toks_by_dev (F := F))) $$ Htok
  unfold G; simp only [bigSep_sep']
  isplitl [Hst']; · iexact Hst'
  isplitl [Hat' Hr']
  · isplitl [Hat']; · iexact Hat'
    iexact Hr'
  iexact Htok'

/-! ## The cells' invariants -/

/-- Holding the kernel's own semaphores at zero is holding the copy's and each piece's at zero. -/
theorem own_sems (c : Dev nD) : (Pipeline.ownSems0 (Ix := Unit) (Name := ℕ) (U := UU) (Lvl := ℕ) (Val := Elt F) (τ := τ) osem c : sProp 𝕄)
    = bigSep Finset.univ fun x : Ox => semVal (cell c (.own x)) 0 := rfl

/-- The one semaphore that the kernel does not allot itself is the barrier's, at zero. -/
theorem bar_sem (c : Dev nD) : (unscopedSems0 c : sProp 𝕄) = semVal (barC c) 0 := by
  unfold unscopedSems0; rw [bigSep_eq_bigSepL_of_eq [SemLoc.reg barS] (by decide) (by decide)]; rfl

/-- A device's cells set up. -/
theorem dev_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cx => iprop(∃ κ : ℕ, cellInv ER (Rd m) κ (cell c x)))
          ∗ ((bigSep Finset.univ fun x : Cx => atPos ER (cell c x) 0 ∅ 0) ∗ bigSep Finset.univ fun x : Cx => reached ER (cell c x) 0) ∗ toks c) := by
  unfold G
  rw [own_sems, bar_sem]
  iintro ⟨Hv, Hb, Hst, Hat, Htok⟩
  imod (show iprop((bigSep Finset.univ fun x : Cx => semVal (cell c x) 0) ∗ bigSep Finset.univ fun x : Cx => roundState ER (Rd m) (cell c x) 0)
      ⊢ (|={Set.univ}=> bigSep Finset.univ fun x : Cx => iprop(∃ κ : ℕ, cellInv ER (Rd m) κ (cell c x)) : sProp 𝕄) from by
        rw [← bigSep_sep']
        exact (bigSep_mono fun x _ => (Rounds.body_intro ER (Rd m) (cell c x)).trans inv_alloc).trans (bigSep_fupd _ _)) $$ [Hv Hb Hst] with Hinv
  · isplitl [Hv Hb]
    · rw [cx_split]
      isplitl [Hb]; · iexact Hb
      iexact Hv
    iexact Hst
  imodintro
  isplitl [Hinv]; · iexact Hinv
  isplitl [Hat]; · iexact Hat
  iexact Htok

/-- Positions and signals, sorted. -/
theorem lin_intro (c : Dev nD) : iprop((bigSep Finset.univ fun x : Cx => atPos ER (cell c x) 0 ∅ 0) ∗ paid c) ⊢ (lin c : sProp 𝕄) := by
  rw [cx_split, own_split]
  unfold paid lin
  simp only [bigSep_sep']
  iintro ⟨⟨Hb, Hc, Hr, Hs, Ho⟩, Tb, Tc, Tr, Ts, To⟩
  isplitl [Hc]; · iexact Hc
  isplitl [Tc]; · iexact Tc
  isplitl [Hb]; · iexact Hb
  isplitl [Tb]; · iexact Tb
  isplitl [Hr]; · iexact Hr
  isplitl [Hs Ts Tr]
  · isplitl [Hs]; · iexact Hs
    isplitl [Ts]; · iexact Ts
    iexact Tr
  isplitl [Ho]; · iexact Ho
  iexact To

/-- Every device gets the records. -/
theorem with_records (K : Dev nD × Cx → ℕ) :
    iprop(records m K ∗ bigSep Finset.univ fun c : Dev nD => lin c) ⊢ bigSep Finset.univ (G' m) := by
  refine (sep_mono_left (BI.bigSep_of_persistent (Finset.univ : Finset (Dev nD)) (records m K))).trans ?_
  rw [← bigSep_sep']
  refine bigSep_mono fun c _ => ?_
  show iprop(records m K ∗ lin c) ⊢ iprop(∃ K, records m K ∗ lin c)
  iintro H
  iexists K
  iexact H

/-- Once every cell is set up, each device gets all the records and its own share. -/
theorem share_out :
    (bigSep Finset.univ fun c : Dev nD => iprop((bigSep Finset.univ fun x : Cx => iprop(∃ κ : ℕ, cellInv ER (Rd m) κ (cell c x)))
          ∗ ((bigSep Finset.univ fun x : Cx => atPos ER (cell c x) 0 ∅ 0) ∗ bigSep Finset.univ fun x : Cx => reached ER (cell c x) 0) ∗ toks c) : sProp 𝕄)
      ⊢ bigSep Finset.univ (G' m) := by
  rw [bigSep_sep', bigSep_sep', bigSep_sep', ← bigSep_univ_prod (fun p : Dev nD × Cx => iprop(∃ κ : ℕ, cellInv ER (Rd m) κ (cell p.1 p.2))),
    ← bigSep_univ_prod (fun p : Dev nD × Cx => (reached ER (cell p.1 p.2) 0 : sProp 𝕄))]
  iintro ⟨HI, ⟨Hat, #HR⟩, Htok⟩
  icases (BI.bigSep_exists_pi Finset.univ (fun (p : Dev nD × Cx) (κ : ℕ) => (cellInv ER (Rd m) κ (cell p.1 p.2) : sProp 𝕄))) $$ HI with ⟨%K, #HK⟩
  ihave Htk := (toks_paid (F := F)) $$ Htok
  iapply (with_records m K)
  isplitr
  · unfold records
    isplitr; · iexact HK
    iexact HR
  iapply (show iprop((bigSep Finset.univ fun c : Dev nD => bigSep Finset.univ fun x : Cx => atPos ER (cell c x) 0 ∅ 0) ∗ bigSep Finset.univ fun c : Dev nD => paid c)
      ⊢ (bigSep Finset.univ fun c : Dev nD => lin c : sProp 𝕄) from by
    rw [← bigSep_sep']; exact bigSep_mono fun c _ => lin_intro c)
  isplitl [Hat]; · iexact Hat
  iexact Htk

/-- From all semaphores at zero and what was dealt out, each device gets all the records and its own share. -/
theorem setup : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => dev_alloc m c).trans (bigSep_fupd _ _)).trans (BI.fupd_mono (share_out m))

/-! ## The credit -/

/-- What a list of sends owes a cell that receives a piece. -/
theorem owedL_rcv (d c : Dev nD) (k : Ck) : ∀ ks : List Ck, ks.Nodup → owedL d ks (rcvC c k) () = if k ∈ ks ∧ c = sendDev k d then NC k else 0
  | [], _ => by rw [if_neg (by simp)]; rfl
  | k' :: ks, h => by
    have hn := List.nodup_cons.mp h
    have ih := owedL_rcv d c k ks hn.2
    unfold owedL
    rw [Pi.add_apply, Finsupp.add_apply, ih, tallyAt_apply]
    by_cases e : k = k'
    · subst e
      rw [if_neg (fun hh => hn.1 hh.1), Nat.zero_add]
      by_cases hc : c = sendDev k d
      · rw [if_pos ⟨by rw [hc], rfl⟩, if_pos ⟨List.mem_cons_self, hc⟩]
      · rw [if_neg (fun hh => hc (cell_inj (x := .own (.rcv k)) (x' := .own (.rcv k)) hh.1).1), if_neg (fun hh => hc hh.2)]
    · rw [if_neg (c := rcvC c k = rcvC (sendDev k' d) k' ∧ () = ()) (fun hh => e (by
        have := (cell_inj (x := .own (.rcv k)) (x' := .own (.rcv k')) hh.1).2
        injection this with this; injection this)), Nat.add_zero]
      simp only [List.mem_cons, e, false_or]

/-- It owes the barrier nothing. -/
theorem owedL_bar (d c : Dev nD) : ∀ ks : List Ck, owedL d ks (barC c) () = 0
  | [] => rfl
  | k' :: ks => by
    unfold owedL
    rw [Pi.add_apply, Finsupp.add_apply, owedL_bar d c ks, tallyAt_ne_cell (fun hh => by
      have := (cell_inj (x := .bar) (x' := .own (.rcv k')) hh).2
      injection this)]
    rfl

/-- A device sends no piece twice. -/
theorem sends_nodup : sends.Nodup := by decide
/-- A device sends every piece. -/
theorem mem_sends (k : Ck) : k ∈ sends := by revert k; decide +kernel

/-- A landing's cell is no barrier's. -/
theorem bar_ne_rcv (c d : Dev nD) (k : Ck) : rcvC c k ≠ barC d := fun hh => by
  have := (cell_inj (x := .own (.rcv k)) (x' := .bar) hh).2
  injection this

/-- At its start a device owes a landing the piece's credit if it is that piece's sender, and nothing if not. -/
theorem owed_rcv (d c : Dev nD) (k : Ck) : O₀ d (rcvC c k) () = if c = sendDev k d then NC k else 0 := by
  unfold O₀
  rw [Pi.add_apply, Pi.add_apply, Pi.add_apply, Finsupp.add_apply, Finsupp.add_apply, Finsupp.add_apply,
    tallyAt_ne_cell (bar_ne_rcv c _ k), tallyAt_ne_cell (bar_ne_rcv c _ k), tallyAt_ne_cell (bar_ne_rcv c _ k), owedL_rcv d c k _ sends_nodup]
  simp only [mem_sends, true_and]
  rfl

/-- One signal to a device's barrier counts one at that barrier and nothing at another. -/
theorem tally_bar (d c : Dev nD) : tallyAt (barC d) () 1 (barC c) () = if c = d then 1 else 0 := by
  rw [tallyAt_apply]
  by_cases h : c = d
  · subst h; rw [if_pos ⟨rfl, rfl⟩, if_pos rfl]
  · rw [if_neg (fun hh => h (cell_inj (x := .bar) (x' := .bar) hh.1).1), if_neg h]

/-- At its start a device owes one signal to each neighbour's barrier. -/
theorem owed_bar (d c : Dev nD) : O₀ d (barC c) () = ((if c = nb 1 d then 1 else 0) + (if c = nb 2 d then 1 else 0)) + (if c = nb 0 d then 1 else 0) := by
  unfold O₀
  rw [Pi.add_apply, Pi.add_apply, Pi.add_apply, Finsupp.add_apply, Finsupp.add_apply, Finsupp.add_apply, tally_bar, tally_bar, tally_bar, owedL_bar, Nat.zero_add]

/-- Being a neighbour goes both ways. -/
theorem eq_nb (j : Fin 3) (c d : Dev nD) : c = nb j d ↔ d = nb (opp j) c :=
  ⟨fun h => by rw [h, nb_opp], fun h => by rw [h]; have := nb_opp (opp j) c; rw [opp_opp] at this; exact this.symm⟩

/-- Summing over the devices a number at the one that has a given neighbour gives that number. -/
theorem sum_nb (j : Fin 3) (c : Dev nD) (n : ℕ) : (∑ d : Dev nD, if c = nb j d then n else 0) = n := by
  rw [Finset.sum_congr rfl fun d _ => if_congr (eq_nb j c d) rfl rfl, Finset.sum_ite_eq' Finset.univ (nb (opp j) c) fun _ => n, if_pos (Finset.mem_univ _)]

/-- What all devices together owe a device's barrier is three signals. -/
theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    sum_nb, sum_nb, sum_nb]

/-- What all devices together owe a landing is that piece's credit, once. -/
theorem launch_rcv (c : Dev nD) (k : Ck) :
    tallyOn (rcvC c k) (launchCredit (Pipeline.owing O₀) 0 (rcvC c k)) = (tallyAt (rcvC c k) () (NC k) : CellTallies nD τ sig Unit) := by
  unfold tallyAt; refine congrArg _ (Finsupp.ext fun u => ?_); cases u
  rw [Pipeline.launchCredit_owing, Finsupp.single_eq_same, Finset.sum_congr rfl fun d _ => owed_rcv d c k,
    Finset.sum_congr rfl fun d _ => (by rw [sendDev_eq] : (if c = sendDev k d then NC k else 0) = if c = nb (dir k) d then NC k else 0), sum_nb]

/-- A device's credit. -/
theorem crd_intro (c : Dev nD) : (Pipeline.launchCred O₀ c : sProp 𝕄) ⊢ crd c := by
  unfold Pipeline.launchCred crd
  rw [bigSep_univ_at _ (SemLoc.reg barS), launch_bar]
  refine sep_mono_right ?_
  have hs : Finset.univ.map ⟨fun k : Ck => (SemLoc.dma (recvSem k) : SemLoc sig), fun a b h => by
      have := csem_inj (a₁ := .own (.rcv a)) (a₂ := .own (.rcv b)) h
      injection this with this; injection this⟩ ⊆ Finset.univ.erase (SemLoc.reg barS : SemLoc sig) := by
    intro s hs
    obtain ⟨k, -, rfl⟩ := Finset.mem_map.mp hs
    exact Finset.mem_erase.mpr ⟨(fun h => by injection h), Finset.mem_univ _⟩
  refine (bigSep_subset hs).trans ?_
  rw [bigSep_map]
  refine bigSep_mono fun k _ => ?_
  exact Entails.of_eq (congrArg cred (launch_rcv c k))

end Cert.KernelIdeal.Net

end
-- ==== Proof.Run.lean ====
/- The run of the kernel, over any floats. -/
module

public import proofs.«01_k».proof.Proof.Start
public import proofs.«01_k».proof.Proof.Gen.KernelIdeal.Frame
public import Idealize.ShloMosaic.Lib.Pipeline.CollectiveSegs

@[expose] public section

noncomputable section

namespace Cert.KernelIdeal.Net

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : MemT F) (ρ : Dev nD → PrngReg)

/-- A device's two whole arrays of the kernel. -/
def arrs (c : Dev nD) : sProp 𝕄 :=
  iprop((((c : Thread nD τ).loc main_arg0) ↦{fullShare} (m ((c : Thread nD τ).loc main_arg0)))
    ∗ (((c : Thread nD τ).loc main_v1) ↦{fullShare} (m ((c : Thread nD τ).loc main_v1))))

/-- What it starts the kernel from. -/
def start (c : Dev nD) : sProp 𝕄 := iprop(G' m c ∗ crd c ∗ levAts L lv ∗ arrs m c)

/-- And with its buffers. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The staged scale. -/
def gst (c : Dev nD) : (cc0_stg0_0 : Ref sig .tc).ty.Contents (Elt F) := (win0_0.blk t0_0).view.read (Elt F) (m ((c : Thread nD τ).loc main_arg1))

/-- The staged scale is the whole of it. -/
theorem gst_eq (c : Dev nD) : gst m c = gam m c := by
  funext i
  refine congrArg (m ((c : Thread nD τ).loc main_arg1)) (funext fun a => Fin.ext ?_)
  match a with
  | ⟨0, _⟩ => exact (ValueKit.rect_emb_unit_val (s := S2048) _ _ _ i _).trans (by simp; rfl)

/-- What the pipeline needs to know of the kernel. -/
def dats (_ : Fin 1) (c : Dev nD) : Dat τ (Elt F) Unit ℕ UU ℕ cfg0 c where
  A w := m ((cfg0.win w).arr.view.loc (c : Thread nD τ))
  after w _ := match w with
    | ⟨0, _⟩ => gst m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A whole buffer at a content. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Holding a staging buffer, as a points-to. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body starts from. -/
def bodyPre (c : Dev nD) : sProp 𝕄 :=
  iprop(Φ₀ m c ∗ (dats m 0 c).owesAt () t0_0.castSucc ∗ ∃ d, stg c cc0_stg0_0 ((dats m 0 c).before (0 : Fin 1) t0_0 d))
/-- What the body leaves. -/
def bodyPost (c : Dev nD) : sProp 𝕄 :=
  iprop(Φ₁ m c ∗ (dats m 0 c).owesAt () t0_0.succ ∗ stg c cc0_stg0_0 (gst m c))

/-- The body from the buffers whole to the buffers whole. -/
theorem body_sound (c : Dev nD) : bodyPre m c ⊢ WP c prog (fun _ => bodyPost m c) := by
  unfold bodyPre Φ₀ start G' arrs
  iintro ⟨⟨⟨⟨%K, #Hrec, Hlin⟩, Hcrd, #Hlev, Harg, Hout⟩, Hcm, Hlo, Hsg⟩, Ho, ⟨%d, %g, %hg, Hga⟩⟩
  have hx : g = gst m c := by rw [hg]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  icases (arg_cut m c).1 $$ Harg with ⟨⟨Hah, Hap⟩, HR⟩
  ihave #Hctx := (show iprop(records m K ∗ levAts L lv) ⊢ ctx m K from BIBase.Entails.refl) $$ []
  · isplitr; · iexact Hrec
    iexact Hlev
  iapply (prog_sound m K c W) $$ [Hlin Hcrd Hah Hap Hout Hsg Hcm Hlo Hga HO]
  · isplitr; · iexact Hctx
    isplitl [Hlin]; · iexact Hlin
    isplitl [Hcrd]; · iexact Hcrd
    isplitl [Hah Hap Hout Hsg Hcm Hlo]
    · unfold bufs
      isplitl [Hah]; · iexact Hah
      isplitl [Hap]; · iexact Hap
      isplitl [Hout]; · iapply (ou_cut c _); iexact Hout
      isplitl [Hsg]; · iapply (sg_cut c); iexact Hsg
      isplitl [Hcm]; · iapply (cm_cut c); iexact Hcm
      iexact Hlo
    isplitl [Hga]; · unfold gaP; rw [← gst_eq]; iexact Hga
    iexact HO
  iintro ⟨Hf, Hb, HO⟩
  imod (fin1_out m K c) $$ [Hf Hb HR] with ⟨Hga, HΦ⟩
  · isplitr; · iexact Hctx
    isplitl [Hf]; · iexact Hf
    isplitl [Hb]; · iexact Hb
    iexact HR
  imodintro
  unfold bodyPost Dat.owesAt Pipeline.owesWithin owesE
  rw [show (dats m 0 c).owed t0_0.succ = 0 from rfl]
  icases HO with ⟨%W', HO⟩
  isplitl [HΦ]; · iexact HΦ
  isplitl [HO]
  · iexists W'
    isplitr; · ipureintro; exact fun _ _ => Or.inl trivial
    iexact HO
  iexists _; isplitr; · (ipureintro; rfl)
  unfold gaP; rw [gst_eq]; iexact Hga

set_option maxRecDepth 100000 in
/-- So the body does what the pipeline asks of it. -/
theorem body_obligation (c : Dev nD) : BodyObligation (dats (F := F) m 0 c) (defs₀ (F := F)) 𝒱₀ () Set.univ := fun t => by
  rw [fin_N0 t]
  rw [bigSep_W0, bigSep_W0]
  simp only [owns_stg]
  show bodyPre m c ⊢ wp frame (wpE (defs₀ (F := F)) 𝒱₀ c none) Set.univ (bodyAt0 t0_0) (fun _ => bodyPost m c)
  rw [body_eq]
  exact body_sound m c

/-! ## The launch -/

/-- The kernel's own semaphores are its own. -/
theorem ownSemFacts : Pipeline.OwnSemFacts cfg0.spec osem := by decide
/-- The pipeline holds the scale whole. -/
theorem share_eq (c : Dev nD) (w : Fin cfg0.W) : (dats m 0 c).share w = fullShare := by unfold Dat.share; split <;> rfl

/-- What the launch deals out is what a device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨H0, H1⟩, Hlev, Hcr, -, HG⟩
  ihave Hc := (crd_intro (F := F) c) $$ Hcr
  imodintro
  unfold start arrs
  isplitl
  · isplitl [HG]; · iexact HG
    isplitl [Hc]; · iexact Hc
    isplitl [Hlev]; · iexact Hlev
    isplitl [H0]; · iexact H0
    iexact H1
  · iempintro

/-- What the launch gives, with the pipeline's part, is what the kernel is entered with. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What is read at the end. -/
def outs (c : Dev nD) : sProp 𝕄 :=
  iprop(unscopedSems0 c ∗ (((c : Thread nD τ).loc main_arg0) ↦{fullShare} (m ((c : Thread nD τ).loc main_arg0)))
    ∗ (((c : Thread nD τ).loc main_v1) ↦{fullShare} (Vc m c)))

/-- What the body leaves gives back all semaphores at zero, the operand and the result. -/
theorem leave (c : Dev nD) :
    (dats m 0 c).Φ (Fin.last cfg0.N) ⊢ iprop(outs m c ∗ Pipeline.ownSems0 osem c ∗ Pipeline.scopedRest cfg0.spec c) := by
  rw [show (dats m 0 c).Φ (Fin.last cfg0.N) = Φ₁ m c from rfl, scopedRest0_eq, own_sems]
  unfold Φ₁ outs
  rw [bar_sem]
  iintro ⟨H1, H2, H3, Hz, Hb, Ha, Ho⟩
  isplitl [Hb Ha Ho]
  · isplitl [Hb]; · iexact Hb
    isplitl [Ha]; · iexact Ha
    iexact Ho
  isplitl [Hz]; · iexact Hz
  isplitl [H1]; · iexact H1
  isplitl [H2]; · iexact H2
  iexact H3

/-- The staging semaphore is none of the protocol's. -/
theorem stage_dec : ∀ (w : Fin cfg0.W) (s), dec (.dma ((cfg0.win w).sem s)) = none := by decide +kernel
/-- The staging semaphore lies at the bottom of the order. -/
theorem stage_lv (c : Dev nD) (w : Fin cfg0.W) (s) : lv ((c : Thread nD τ), .dma ((cfg0.win w).sem s)) () = 0 := by
  dsimp only [lv]; rw [stage_dec]

/-- A landing lies above the bottom. -/
theorem rcv_pos (k : Ck) : 0 < lvx (.own (.rcv k)) := by cases k <;> exact Nat.succ_pos _

/-- All that a device owes lies above the staging. -/
theorem O₀_above (c : Dev nD) (g : GSem nD τ sig) (u : Unit) (h : 0 < O₀ c g u) : ∃ d x, g = cell d x ∧ 0 < lvx x := by
  have hb (d : Dev nD) (h : 0 < (tallyAt (barC d) () 1 : CellTallies nD τ sig Unit) g u) : ∃ d x, g = cell d x ∧ 0 < lvx x := by
    rw [tallyAt_apply] at h
    by_cases e : g = barC d ∧ u = ()
    · exact ⟨d, .bar, e.1, by decide⟩
    · rw [if_neg e] at h; exact absurd h (Nat.lt_irrefl 0)
  unfold O₀ at h
  rw [Pi.add_apply, Pi.add_apply, Pi.add_apply, Finsupp.add_apply, Finsupp.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨k, hk, rfl⟩ := owedL_pos h
        exact ⟨_, .own (.rcv k), rfl, rcv_pos k⟩
      · exact hb _ h
    · exact hb _ h
  · exact hb _ h

/-- So the pipeline may wait for its staging while everything is owed. -/
theorem waits (c : Dev nD) : (levAts L lv : sProp 𝕄) ⊢ Pipeline.cellsWaits cfgs (dats m) () 0 c :=
  Pipeline.cellsWaits_intro cfgs (dats m) () 0 c fun w s t =>
    mayWait_sem c _ 0 (stage_lv c w s) _ fun g u hg => by
      rcases t with ⟨_ | _, ht⟩
      · exact O₀_above c g u hg
      · exact absurd hg (Nat.lt_irrefl 0)

/-! ## The run -/

/-- The launch's resources. -/
def u₀ : UU := (initOf (Pipeline.cells cfgs cellOf_inj) (Pipeline.launchToks cfgs cellOf_inj), uR)

/-- The final memory. -/
def Done : PUnit × MemSt nD τ sig (Elt F) → Prop := fun r => ∀ c : Dev nD,
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_v1) = Vc m c

set_option maxRecDepth 100000 in
/-- Every execution ends, with every device's result in place, the operands as they were and every semaphore at zero. -/
theorem run_main : θ_run defs (onTc (τ := τ) (main (F := F))) ⟨m, fun _ => 0, ρ⟩ (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      icases (ownU_pair _ _) $$ Hu with ⟨HP, HX⟩
      imod (deal m) $$ HX with HG
      imodintro
      isplitl [HP] <;> iassumption)
    (hglob := setup m)
    (hA := fun _ _ => rfl) (hpf := fun _ k => k.elim0)
    (X := start m) (Y := outs m) (Z := fun _ => iprop(emp))
    (hX := start_intro m ρ) (hin := enter m) (hout := leave m)
    (QY := fun c s => (s.mem ((c : Thread nD τ).loc main_arg0) = m ((c : Thread nD τ).loc main_arg0) ∧ s.mem ((c : Thread nD τ).loc main_v1) = Vc m c)
      ∧ ∀ sm : SemLoc sig, sm.isScoped .tc = false → s.sem ((c.tc : Thread nD τ), sm) = 0)
    (hY := fun c s' => by
      unfold outs
      iintro ⟨⟨Hu, Ha, Ho⟩, -, HSI⟩
      icombine HSI Ha gives %ha
      icombine HSI Ho gives %ho
      imod (Pipeline.unscopedSems0_read (X := unscopedSems0 c) (c := c) fupd_intro s') $$ [Hu HSI] with ⟨%hz, HSI⟩
      · isplitl [Hu] <;> iassumption
      imodintro
      isplitr; · ipureintro; exact ⟨⟨Buf.eq_of_forall_mem_univ ha, Buf.eq_of_forall_mem_univ ho⟩, hz⟩
      iexact HSI)
    (hQ := fun _ h hs => ⟨fun c => ⟨(h c).2.2.1.1, ((h c).1 (0 : Fin 1)).trans ((dats m 0 c).arrAt_in (0 : Fin 1) rfl _), (h c).2.2.1.2⟩,
      sem_eq_zero hs fun c => (h c).2.2.2⟩)

end Cert.KernelIdeal.Net

end
-- ==== Proof.Value.lean ====
/- The result's value at the extended reals: each row of what the kernel leaves is the reference's row. -/
module

public import proofs.«01_k».proof.Proof.Bufs
public import proofs.«01_k».proof.Proof.Gen.ReferenceIdeal.Run
public import Idealize.ShloMosaic.Lib.Layout
public import Idealize.ShloMosaic.Lib.Pointwise

@[expose] public section

noncomputable section

namespace Cert.KernelIdeal.Net

open Idealize.ShloMosaic
open Idealize.ShloMosaic.TcCoe
open Idealize.SL.Sem
open Cert.KernelIdeal Cert.KernelIdeal.Gen

/-- An element of a row `y` divided by the root of the mean of the row's squares, scaled by `g`. -/
def rowVal (y : Fin 2048 → EReal) (g : EReal) (l : Fin 2048) : EReal :=
  Ideal.div (y l) (Ideal.sqrt (Ideal.div (∑ t : Fin 2048, y t * y t) (Ideal.ofBits .f32 0x45000000#32) + Ideal.ofBits .f32 0x358637BD#32)) * g

/-- A piece has 112 rows or 128. -/
theorem rows_or (k : Ck) : rows k = 112 ∨ rows k = 128 := by
  cases k with
  | zd r => exact .inr rfl
  | zq r | dR r | dL r | fR r | fL r => exact .inl rfl

/-- What the kernel works out of two pieces is, row by row, that of their sum. -/
theorem norm_val {n : Nat} (hn : n = 112 ∨ n = 128) (h : RowsFacts n) (a b : Vec Ideal (SC n) .f32) (g : Vec Ideal S2048 .f32) (r : Fin n) (l : Fin 2048) :
    norm (F := Ideal) h a b g (ix2 r l) = rowVal (fun t => a (ix2 r t) + b (ix2 r t)) (g (ix1 l)) l := by
  rcases hn with rfl | rfl <;> pointwise [norm, rowVal]

end Cert.KernelIdeal.Net

namespace Cert.ReferenceIdeal.Value

open Idealize.ShloMosaic Cert.ReferenceIdeal Cert.ReferenceIdeal.Gen

/-- The reference's result, from its two arguments. -/
def refOut (A : FVec Ideal S2x4096x2048 .f32) (g : FVec Ideal S2048 .f32) : FVec Ideal S4096x2048 .f32 :=
  let y := Host.reduceAdd A (constant S_ .f32 0x00000000#32) reducesTo_S2x4096x2048_S4096x2048_d0 h_S_
  mulf (Host.divf y (broadcastInDim S4096x2048 ![0, 1] bcast_S4096x1_S4096x2048_0_1 (Host.sqrt (addf
    (Host.divf (broadcastInDim S4096x1 ![0] bcast_S4096_S4096x1_0
      (Host.reduceAdd (mulf y y) (constant S_ .f32 0x00000000#32) reducesTo_S4096x2048_S4096_d1 h_S_))
      (broadcastInDim S4096x1 ![] bcast_S_S4096x1 (constant S_ .f32 0x45000000#32)))
    (broadcastInDim S4096x1 ![] bcast_S_S4096x1 (constant S_ .f32 0x358637BD#32))))))
    (broadcastInDim S4096x2048 ![0, 1] bcast_S1x2048_S4096x2048_0_1 (broadcastInDim S1x2048 ![1] bcast_S2048_S1x2048_1 g))

end Cert.ReferenceIdeal.Value

namespace Cert.KernelIdeal.Net

open Idealize.ShloMosaic
open Idealize.ShloMosaic.TcCoe
open Idealize.SL.Sem
open Cert.KernelIdeal Cert.KernelIdeal.Gen
open Cert.ReferenceIdeal.Value (refOut)

/-- The reference's result is, row by row, that of the sum of its two parts. -/
theorem refOut_val (A : FVec Ideal Cert.ReferenceIdeal.S2x4096x2048 .f32) (g : FVec Ideal Cert.ReferenceIdeal.S2048 .f32) (r : Fin 4096) (l : Fin 2048) :
    refOut A g (ix2 r l) = rowVal (fun t => A (ix3 0 r t) + A (ix3 1 r t)) (g (ix1 l)) l := by
  pointwise [refOut, rowVal]
  simp only [Fin.sum_univ_two]

variable (m : MemT Ideal)

/-- An element of the result is the row's value of the sum of the two contributions to it. -/
theorem Vc_val (c : Dev nD) (r l : Fin 2048) :
    Vc m c (ix2 r l) = rowVal (fun t => H m c (ix2 r t) + Lc m c (ix2 r t)) (gam m c (ix1 l)) l := by
  obtain ⟨k, h1, h2⟩ := row_cover c r
  have hi : (ix2 r l : S2048x2048.Idx) ∈ cs k c := mem_rs.mpr ⟨h1, h2⟩
  unfold Vc
  rw [kOf_eq hi]
  unfold Vk
  have hx : ∀ t : Fin 2048, ∀ off h, off = ![rowN k c, 0] →
      (Rect.unit (s := S2048x2048) off (SC (rows k)).size h).emb (ix2 ⟨r.val - rowN k c, by omega⟩ t : (SC (rows k)).Idx) = ix2 r t := by
    intro t off h e
    funext a; apply Fin.ext; rw [sl_emb, e]
    match a with
    | ⟨0, _⟩ => show rowN k c + (r.val - rowN k c) = r.val; omega
    | ⟨1, _⟩ => exact Nat.zero_add _
  have hw : (sl Ou (rows k) (rowOff k c) (rowOff_inb k c)).view.emb (ix2 ⟨r.val - rowN k c, by omega⟩ l : (SC (rows k)).Idx) = ix2 r l :=
    hx l _ _ (rowOff_eq k c)
  rw [← hw]
  refine (View.write_emb_of_mem _ _ (Finset.mem_univ _)).trans ?_
  unfold pieceV
  rw [norm_val (rows_or k)]
  have ha : ∀ t, (sl Lo (rows k) (ldOff k c) (ldOff_inb k c)).view.emb (ix2 ⟨r.val - rowN k c, by omega⟩ t : (SC (rows k)).Idx) = ix2 r t :=
    fun t => hx t _ _ (ldOff_eq k c)
  have hb : ∀ t, (sl Cm (rows k) (ldOff k c) (ldOff_inb k c)).view.emb (ix2 ⟨r.val - rowN k c, by omega⟩ t : (SC (rows k)).Idx) = ix2 r t :=
    fun t => hx t _ _ (ldOff_eq k c)
  simp only [View.read_apply, ha, hb]
  rfl

/-- The device whose part comes to `c` is one of the other `z`. -/
theorem orig_mod (c : Dev nD) (r : Nat) : (orig c r).val % 2 = 1 - c.val % 2 := by
  unfold orig
  split
  · revert c; decide
  · have h : ∀ q : Fin 4, ∀ c : Dev nD, (partner (ringAt (c.val % 2) q.val)).val % 2 = 1 - c.val % 2 := by decide
    have e : ringAt (c.val % 2) ((r - 256) / 448) = ringAt (c.val % 2) ((r - 256) / 448 % 4) := by
      unfold ringAt; simp only [Nat.mod_mod]
    rw [e]
    exact h ⟨(r - 256) / 448 % 4, Nat.mod_lt _ (by decide)⟩ c

variable (A : FVec Ideal Cert.ReferenceIdeal.S2x4096x2048 .f32) (g : FVec Ideal Cert.ReferenceIdeal.S2048 .f32)

/-- The block along `z` that a device holds. -/
theorem lin_z (d : Dev nD) : Layout.meshLin [2, 2, 2] d.val [2] = d.val % 2 := by revert d; decide

/-- A device's operand is the part of the whole that its `z` names. -/
theorem part_val (d : Dev nD) (r : Fin 4096) (t : Fin 2048) :
    (Layout.blockN ⟨3, ![1, 4096, 2048]⟩ ⟨3, ![2, 4096, 2048]⟩ (Layout.meshBlock [2, 2, 2] ![[2], [], []] d) A) (ix3 0 r t)
      = A (ix3 ⟨d.val % 2, Nat.mod_lt _ (by decide)⟩ r t) := by
  rw [Layout.blockN_apply]
  congr 1
  funext a; apply Fin.ext; rw [Layout.TilesN.idx_val]
  match a with
  | ⟨0, _⟩ =>
    show Layout.meshLin [2, 2, 2] d.val [2] * 1 + 0 = d.val % 2
    rw [lin_z]; omega
  | ⟨1, _⟩ => show 0 * 4096 + r.val = r.val; omega
  | ⟨2, _⟩ => show 0 * 2048 + t.val = t.val; omega

/-- Where a row of a device's block lies in the whole result. -/
theorem rows_idx (h : Layout.TilesN ⟨2, ![2048, 2048]⟩ ⟨2, ![4096, 2048]⟩ (fun b => Layout.cutSize [2, 2, 2] (![[2], []] b)))
    (c : Dev nD) (r l : Fin 2048) (hR : 2048 * (c.val % 2) + r.val < 4096) :
    h.idx (Layout.meshBlock [2, 2, 2] ![[2], []] c) (ix2 r l) = ix2 ⟨2048 * (c.val % 2) + r.val, hR⟩ l := by
  funext a; apply Fin.ext; rw [Layout.TilesN.idx_val, Layout.meshBlock_val]
  match a with
  | ⟨0, _⟩ =>
    show Layout.meshLin [2, 2, 2] c.val [2] * 2048 + r.val = 2048 * (c.val % 2) + r.val
    rw [lin_z, Nat.mul_comm]
  | ⟨1, _⟩ =>
    show 0 * 2048 + l.val = l.val
    omega

/-- Device `c`'s result is its block of the reference's result. -/
theorem Vc_eq (h0 : ∀ c : Dev nD, m ((c.tc : Thread nD τ).loc main_arg0)
        = Layout.blockN ⟨3, ![1, 4096, 2048]⟩ ⟨3, ![2, 4096, 2048]⟩ (Layout.meshBlock [2, 2, 2] ![[2], [], []] c) A)
    (h1 : ∀ c : Dev nD, m ((c.tc : Thread nD τ).loc main_arg1) = g) (c : Dev nD) :
    Vc m c = Layout.blockN ⟨2, ![2048, 2048]⟩ ⟨2, ![4096, 2048]⟩ (Layout.meshBlock [2, 2, 2] ![[2], []] c) (refOut A g) := by
  funext i
  obtain ⟨r, l, rfl⟩ : ∃ r l : Fin 2048, i = ix2 r l := ⟨i 0, i 1, by funext a; match a with | ⟨0, _⟩ => rfl | ⟨1, _⟩ => rfl⟩
  have hR : 2048 * (c.val % 2) + r.val < 4096 := by have := r.isLt; omega
  have hA : ∀ (d : Dev nD) (t : Fin 2048), Ah m c d (ix2 r t) = A (ix3 ⟨d.val % 2, Nat.mod_lt _ (by decide)⟩ ⟨2048 * (c.val % 2) + r.val, hR⟩ t) := by
    intro d t
    unfold Ah
    exact (congrFun (h0 d) _).trans (part_val A d ⟨2048 * (c.val % 2) + r.val, hR⟩ t)
  have hy : (fun t => H m c (ix2 r t) + Lc m c (ix2 r t))
      = fun t => A (ix3 0 ⟨2048 * (c.val % 2) + r.val, hR⟩ t) + A (ix3 1 ⟨2048 * (c.val % 2) + r.val, hR⟩ t) := by
    funext t
    unfold H Lc
    rw [hA, hA]
    have e := orig_mod c ((ix2 r t : S2048x2048.Idx) 0).val
    rcases Nat.mod_two_eq_zero_or_one c.val with h | h
    · have e1 : (⟨c.val % 2, Nat.mod_lt _ (by decide)⟩ : Fin 2) = 0 := Fin.ext h
      have e2 : (⟨(orig c ((ix2 r t : S2048x2048.Idx) 0).val).val % 2, Nat.mod_lt _ (by decide)⟩ : Fin 2) = 1 := Fin.ext (e.trans (by rw [h]; rfl))
      rw [e1, e2]
    · have e1 : (⟨c.val % 2, Nat.mod_lt _ (by decide)⟩ : Fin 2) = 1 := Fin.ext h
      have e2 : (⟨(orig c ((ix2 r t : S2048x2048.Idx) 0).val).val % 2, Nat.mod_lt _ (by decide)⟩ : Fin 2) = 0 := Fin.ext (e.trans (by rw [h]; rfl))
      rw [e1, e2, add_comm]
  rw [Vc_val, hy, Layout.blockN_apply]
  rw [rows_idx _ c r l hR]
  rw [refOut_val]
  exact congrArg (fun w => rowVal _ w l) (congrFun (h1 c) _)

end Cert.KernelIdeal.Net
-- ==== Proof.lean ====
/- The claims of the kernel and of its reference, from the kernel's run over any floats and the result's value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Run
public import proofs.«01_k».proof.Proof.Value

@[expose] public section

noncomputable section

namespace Cert.Proof

open Idealize.ShloMosaic Idealize.SL.Sem Cert.Kernel

/-- The kernel's text is the same read at the machine's words and read for the extended reals: its one body, -/
theorem body_same : Cert.Kernel.defs₀ (F := Bits) = Cert.KernelIdeal.defs₀ := by
  unfold Cert.Kernel.defs₀ Cert.KernelIdeal.defs₀
  refine congrArg Defs.onTc (funext fun ℓ => funext fun a => ?_)
  match ℓ, a with
  | 0, (t, s) => exact rfl

/-- and with it its whole table of bodies. -/
theorem table_same : Cert.Kernel.defs (F := Bits) = Cert.KernelIdeal.defs :=
  congrArg (Pipeline.defs Cert.KernelIdeal.pcfgs) body_same

/-- On the machine's words every execution of the kernel ends, its operands as they were and every semaphore at zero. -/
theorem frame_kernel : Cert.quiescent_Kernel := fun m ρ _ => by
  rw [table_same]
  exact (θ_run Cert.KernelIdeal.defs _ _).mono (fun _ h => ⟨fun c => ⟨(h.1 c).1, (h.1 c).2.1⟩, h.2⟩)
    (Cert.KernelIdeal.Net.run_main (F := Bits) m ρ)

/-- So does every execution at the extended reals. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.Net.run_main m ρ)

/-- And of the reference, which has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- On every device the kernel leaves its block of the reference's result. -/
theorem value : Cert.algebraic_KernelIdeal_ReferenceIdeal := fun m ρ m' ρ' _ h =>
  ⟨Cert.ReferenceIdeal.Value.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ r c =>
        ⟨(r.1 c).2.2.trans (Cert.KernelIdeal.Net.Vc_eq m _ _ (fun c => (h c).1) (fun c => (h c).2) c), (r.1 c).1, (r.1 c).2.1⟩)
      (Cert.KernelIdeal.Net.run_main m ρ),
    (θ_run Cert.ReferenceIdeal.defs _ _).mono (fun _ r => r 0) (Cert.ReferenceIdeal.Value.run m' ρ')⟩

/-- All that is claimed. -/
theorem claim : Cert.Claim := ⟨Cert.Kernel.Gen.facts, Cert.KernelIdeal.Gen.facts, Cert.ReferenceIdeal.Gen.facts,
  frame_kernel, frame_ideal, frame_reference, trivial, value⟩

end Cert.Proof

end
